-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S8x1024x256 : Shape := ⟨3, ![8, 1024, 256]⟩
abbrev S8x1024 : Shape := ⟨2, ![8, 1024]⟩
abbrev S1024x128 : Shape := ⟨2, ![1024, 128]⟩
abbrev S1024 : Shape := ⟨1, ![1024]⟩
abbrev S_ : Shape := ⟨0, ![]⟩

class Facts : Prop where
  bcast_S_S8x1024x256 : S_.BroadcastsInDim S8x1024x256 (![] : Fin 0 → Fin S8x1024x256.rank)
  reducesTo_S8x1024x256_S_d0_1_2 : S8x1024x256.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x1024x256 .f32) (main_arg1 : IVec S8x1024 1) (main_arg2 : FVec F S1024x128 .f32) (main_arg3 : FVec F S1024 .f32) (main_arg4 : FVec F S1024x128 .f32) : IVec S_ 1 :=
  let main_v0 : FVec F S8x1024x256 .f32 := Host.absf main_arg0
  let main_cst : FVec F S_ .f32 := constant S_ .f32 0x7F800000#32
  let main_v1 : FVec F S8x1024x256 .f32 := broadcastInDim S8x1024x256 ![] bcast_S_S8x1024x256 main_cst
  let main_v2 : IVec S8x1024x256 1 := cmpf .olt main_v0 main_v1
  let main_c : IVec S_ 1 := constantI S_ 1 1#1
  let main_v3 : IVec S_ 1 := (fun x v => Host.reduce IntOp.andi x v reducesTo_S8x1024x256_S_d0_1_2 h_S_) main_v2 main_c
  let main_v4 : FVec F S1024x128 .f32 := Host.absf main_arg2
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x1024x256 : Shape := ⟨3, ![8, 1024, 256]⟩
abbrev S8x1024 : Shape := ⟨2, ![8, 1024]⟩
abbrev S1024x128 : Shape := ⟨2, ![1024, 128]⟩
abbrev S1024 : Shape := ⟨1, ![1024]⟩
abbrev S8192x256 : Shape := ⟨2, ![8192, 256]⟩
abbrev S1x1024 : Shape := ⟨2, ![1, 1024]⟩
abbrev S8192x1 : Shape := ⟨2, ![8192, 1]⟩
abbrev S8192x2 : Shape := ⟨2, ![8192, 2]⟩
abbrev S2048x256 : Shape := ⟨2, ![2048, 256]⟩
abbrev S2048x1 : Shape := ⟨2, ![2048, 1]⟩
abbrev S2048x2 : Shape := ⟨2, ![2048, 2]⟩
abbrev S2048x128 : Shape := ⟨2, ![2048, 128]⟩
abbrev S2048x1024 : Shape := ⟨2, ![2048, 1024]⟩
abbrev S2048 : Shape := ⟨1, ![2048]⟩
abbrev S8x1024x2 : Shape := ⟨3, ![8, 1024, 2]⟩

abbrev nBuf : Space → Nat
  | .hbm => 13
  | .vmem => 11
  | .smem => 0
  | _ => 0

abbrev bufTy : (tb : Table) → Fin (tcTables nBuf tb) → BufTy
  | .hbm, ⟨0, _⟩ => ⟨S8x1024x256, .f32⟩
  | .hbm, ⟨1, _⟩ => ⟨S8x1024, .i1⟩
  | .hbm, ⟨2, _⟩ => ⟨S1024x128, .f32⟩
  | .hbm, ⟨3, _⟩ => ⟨S1024, .f32⟩
  | .hbm, ⟨4, _⟩ => ⟨S1024x128, .f32⟩
  | .hbm, ⟨5, _⟩ => ⟨S8192x256, .f32⟩
  | .hbm, ⟨6, _⟩ => ⟨S1x1024, .f32⟩
  | .hbm, ⟨7, _⟩ => ⟨S8192x1, .i1⟩
  | .hbm, ⟨8, _⟩ => ⟨S8192x1, .i32⟩
  | .hbm, ⟨9, _⟩ => ⟨S8192x256, .f32⟩
  | .hbm, ⟨10, _⟩ => ⟨S8192x2, .i32⟩
  | .hbm, ⟨11, _⟩ => ⟨S8x1024x256, .f32⟩
  | .hbm, ⟨12, _⟩ => ⟨S8x1024x2, .i32⟩
  | .local _ .vmem, ⟨0, _⟩ => ⟨S2048x256, .f32⟩
  | .local _ .vmem, ⟨1, _⟩ => ⟨S2048x256, .f32⟩
  | .local _ .vmem, ⟨2, _⟩ => ⟨S1024x128, .f32⟩
  | .local _ .vmem, ⟨3, _⟩ => ⟨S1x1024, .f32⟩
  | .local _ .vmem, ⟨4, _⟩ => ⟨S1024x128, .f32⟩
  | .local _ .vmem, ⟨5, _⟩ => ⟨S2048x1, .i32⟩
  | .local _ .vmem, ⟨6, _⟩ => ⟨S2048x1, .i32⟩
  | .local _ .vmem, ⟨7, _⟩ => ⟨S2048x256, .f32⟩
  | .local _ .vmem, ⟨8, _⟩ => ⟨S2048x256, .f32⟩
  | .local _ .vmem, ⟨9, _⟩ => ⟨S2048x2, .i32⟩
  | .local _ .vmem, ⟨10, _⟩ => ⟨S2048x2, .i32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x2 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x1024x256 : Shape := ⟨3, ![8, 1024, 256]⟩
abbrev S8x1024 : Shape := ⟨2, ![8, 1024]⟩
abbrev S1024x128 : Shape := ⟨2, ![1024, 128]⟩
abbrev S1024 : Shape := ⟨1, ![1024]⟩
abbrev S8x1024x128 : Shape := ⟨3, ![8, 1024, 128]⟩
abbrev S128x1024 : Shape := ⟨2, ![128, 1024]⟩
abbrev S8x1024x1024 : Shape := ⟨3, ![8, 1024, 1024]⟩
abbrev S1x1x1024 : Shape := ⟨3, ![1, 1, 1024]⟩
abbrev S_ : Shape := ⟨0, ![]⟩
abbrev S8x1024x1 : Shape := ⟨3, ![8, 1024, 1]⟩
abbrev S8x1024x2 : Shape := ⟨3, ![8, 1024, 2]⟩

abbrev nBuf : Space → Nat
  | .hbm => 70
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S8x1024, .i1⟩
  | .hbm, ⟨2, _⟩ => ⟨S1024x128, .f32⟩
  | .hbm, ⟨3, _⟩ => ⟨S1024, .f32⟩
  | .hbm, ⟨4, _⟩ => ⟨S1024x128, .f32⟩
  | .hbm, ⟨5, _⟩ => ⟨S8x1024x128, .f32⟩
  | .hbm, ⟨6, _⟩ => ⟨S8x1024x128, .f32⟩
  | .hbm, ⟨7, _⟩ => ⟨S128x1024, .f32⟩
  | .hbm, ⟨8, _⟩ => ⟨S8x1024x1024, .f32⟩
  | .hbm, ⟨9, _⟩ => ⟨S1x1x1024, .f32⟩
  | .hbm, ⟨10, _⟩ => ⟨S8x1024x1024, .f32⟩
  | .hbm, ⟨11, _⟩ => ⟨S8x1024x1024, .f32⟩
  | .hbm, ⟨12, _⟩ => ⟨S8x1024x1024, .i32⟩
  | .hbm, ⟨13, _⟩ => ⟨S_, .f32⟩
  | .hbm, ⟨14, _⟩ => ⟨S_, .i32⟩
  | .hbm, ⟨15, _⟩ => ⟨S8x1024, .f32⟩
  | .hbm, ⟨16, _⟩ => ⟨S8x1024, .i32⟩
  | .hbm, ⟨17, _⟩ => ⟨S_, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S8x1024x1, .f32⟩
  | .hbm, ⟨23, _⟩ => ⟨S8x1024x1024, .f32⟩
  | .hbm, ⟨24, _⟩ => ⟨S8x1024x1024, .f32⟩
  | .hbm, ⟨25, _⟩ => ⟨S8x1024x1024, .f32⟩
  | .hbm, ⟨26, _⟩ => ⟨S_, .f32⟩
  | .hbm, ⟨27, _⟩ => ⟨S8x1024, .f32⟩
  | .hbm, ⟨28, _⟩ => ⟨S8x1024x1, .f32⟩
  | .hbm, ⟨29, _⟩ => ⟨S8x1024x1024, .f32⟩
  | .hbm, ⟨30, _⟩ => ⟨S8x1024x1024, .f32⟩
  | .hbm, ⟨31, _⟩ => ⟨S8x1024x128, .f32⟩
  | .hbm, ⟨32, _⟩ => ⟨S128x1024, .f32⟩
  | .hbm, ⟨33, _⟩ => ⟨S8x1024x1024, .f32⟩
  | .hbm, ⟨34, _⟩ => ⟨S1x1x1024, .f32⟩
  | .hbm, ⟨35, _⟩ => ⟨S8x1024x1024, .f32⟩
  | .hbm, ⟨36, _⟩ => ⟨S8x1024x1024, .f32⟩
  | .hbm, ⟨37, _⟩ => ⟨S8x1024x1024, .i32⟩
  | .hbm, ⟨38, _⟩ => ⟨S_, .f32⟩
  | .hbm, ⟨39, _⟩ => ⟨S_, .i32⟩
  | .hbm, ⟨40, _⟩ => ⟨S8x1024, .f32⟩
  | .hbm, ⟨41, _⟩ => ⟨S8x1024, .i32⟩
  | .hbm, ⟨42, _⟩ => ⟨S_, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S8x1024x1, .f32⟩
  | .hbm, ⟨48, _⟩ => ⟨S8x1024x1024, .f32⟩
  | .hbm, ⟨49, _⟩ => ⟨S8x1024x1024, .f32⟩
  | .hbm, ⟨50, _⟩ => ⟨S8x1024x1024, .f32⟩
  | .hbm, ⟨51, _⟩ => ⟨S_, .f32⟩
  | .hbm, ⟨52, _⟩ => ⟨S8x1024, .f32⟩
  | .hbm, ⟨53, _⟩ => ⟨S8x1024x1, .f32⟩
  | .hbm, ⟨54, _⟩ => ⟨S8x1024x1024, .f32⟩
  | .hbm, ⟨55, _⟩ => ⟨S8x1024x1024, .f32⟩
  | .hbm, ⟨56, _⟩ => ⟨S8x1024x128, .f32⟩
  | .hbm, ⟨57, _⟩ => ⟨S8x1024x256, .f32⟩
  | .hbm, ⟨58, _⟩ => ⟨S8x1024x1, .i32⟩
  | .hbm, ⟨59, _⟩ => ⟨S8x1024x1, .i32⟩
  | .hbm, ⟨60, _⟩ => ⟨S8x1024x2, .i32⟩
  | .hbm, ⟨61, _⟩ => ⟨S8x1024x1, .i1⟩
  | .hbm, ⟨62, _⟩ => ⟨S_, .f32⟩
  | .hbm, ⟨63, _⟩ => ⟨S8x1024x256, .f32⟩
  | .hbm, ⟨64, _⟩ => ⟨S8x1024x256, .i1⟩
  | .hbm, ⟨65, _⟩ => ⟨S8x1024x256, .f32⟩
  | .hbm, ⟨66, _⟩ => ⟨S_, .i32⟩
  | .hbm, ⟨67, _⟩ => ⟨S8x1024x2, .i32⟩
  | .hbm, ⟨68, _⟩ => ⟨S8x1024x2, .i1⟩
  | .hbm, ⟨69, _⟩ => ⟨S8x1024x2, .i32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call1_v0 : Ref sig .tc := ⟨.hbm, 37, rfl⟩
abbrev main_call1_cst : Ref sig .tc := ⟨.hbm, 38, rfl⟩
abbrev main_call1_c : Ref sig .tc := ⟨.hbm, 39, rfl⟩
abbrev main_call1_v1_0 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_call2_v0 : Ref sig .tc := ⟨.hbm, 64, rfl⟩
abbrev main_v44 : Ref sig .tc := ⟨.hbm, 65, rfl⟩
abbrev main_c : Ref sig .tc := ⟨.hbm, 66, rfl⟩
abbrev main_v45 : Ref sig .tc := ⟨.hbm, 67, rfl⟩
abbrev main_call3_v0 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== Proof.RefRun.lean ====
/-
  The REFERENCE'S RUN (hand-written): @main of `ReferenceIdeal.lean` is a straight line of host operations once its four
  calls are unfolded, so its run is the fold of those operations over the launch contents. The two results are stated
  at named stages — the logits of one half of the columns, their row maximum, their exponentials, the code words, the code
  vectors — and the arguments at what they held.
-/
module

public import proofs.«01_k».proof.ReferenceIdeal
public import proofs.«01_k».proof.Proof.Gen.ReferenceIdeal
public import Idealize.ShloMosaic.Lib.StableHlo.Run

@[expose] public section

set_option maxRecDepth 16384

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## The stages -/

/-- The logits of one half `x` of the columns: `x @ W.T + b`. -/
def logits (x : FVec F S8x1024x128 .f32) (W : FVec F S1024x128 .f32) (b : FVec F S1024 .f32) : FVec F S8x1024x1024 .f32 :=
  addf (Host.dotGeneral dot_S8x1024x128_S128x1024_S8x1024x1024_2_0_01_1_n_n none x
      (transpose S128x1024 [1, 0] W transposes_S1024x128_S128x1024_1_0))
    (broadcastInDim S8x1024x1024 ![0, 1, 2] bcast_S1x1x1024_S8x1024x1024_0_1_2
      (broadcastInDim S1x1x1024 ![2] bcast_S1024_S1x1x1024_2 b))

/-- The first half of the columns, -/
def half0 (x : FVec F S8x1024x256 .f32) : FVec F S8x1024x128 .f32 :=
  extractStridedSlice S8x1024x128 ![0, 0, 0] x slices_S8x1024x256_S8x1024x128_0_0_0
/-- and the second. -/
def half1 (x : FVec F S8x1024x256 .f32) : FVec F S8x1024x128 .f32 :=
  extractStridedSlice S8x1024x128 ![0, 0, 128] x slices_S8x1024x256_S8x1024x128_0_0_128

/-- The arg-max reduction along the rows: the value it ends at, -/
def argVal (x : FVec F S8x1024x1024 .f32) (y : IVec S8x1024x1024 32) (u : FVec F S_ .f32) (v : IVec S_ 32) : FVec F S8x1024 .f32 :=
  fun j => (Host.argReduce reducer_argmax_f32_i32 x y u v reducesTo_S8x1024x1024_S8x1024_d2 h_S_ j).1
/-- and the position. -/
def argPos (x : FVec F S8x1024x1024 .f32) (y : IVec S8x1024x1024 32) (u : FVec F S_ .f32) (v : IVec S_ 32) : IVec S8x1024 32 :=
  fun j => (Host.argReduce reducer_argmax_f32_i32 x y u v reducesTo_S8x1024x1024_S8x1024_d2 h_S_ j).2

/-- The code words: each row's arg-max. -/
def words (l : FVec F S8x1024x1024 .f32) : IVec S8x1024 32 :=
  argPos l (iotaInDim S8x1024x1024 32 2) (constant S_ .f32 0xFF800000#32) (constantI S_ 32 0#32)

/-- Each row's maximum, never below negative infinity. -/
def rowMax (l : FVec F S8x1024x1024 .f32) : FVec F S8x1024 .f32 :=
  maximumf (broadcastInDim S8x1024 ![] bcast_S_S8x1024 (constant S_ .f32 0xFF800000#32))
    (Host.reduce FloatOps.maximumf l (constant S_ .f32 0xFF800000#32) reducesTo_S8x1024x1024_S8x1024_d2 h_S_)

/-- A value per row, spread along the row. -/
def spread (v : FVec F S8x1024 .f32) : FVec F S8x1024x1024 .f32 :=
  broadcastInDim S8x1024x1024 ![0, 1, 2] bcast_S8x1024x1_S8x1024x1024_0_1_2
    (broadcastInDim S8x1024x1 ![0, 1] bcast_S8x1024_S8x1024x1_0_1 v)

/-- The exponentials of the logits less their row's maximum. -/
def exps (l : FVec F S8x1024x1024 .f32) : FVec F S8x1024x1024 .f32 := Host.exp (subf l (spread (rowMax l)))

/-- The code vectors: the softmax of each row of logits, times the table. -/
def vecs (l : FVec F S8x1024x1024 .f32) (T : FVec F S1024x128 .f32) : FVec F S8x1024x128 .f32 :=
  Host.dotGeneral dot_S8x1024x1024_S1024x128_S8x1024x128_2_0_01_1_n_n none
    (Host.divf (exps l) (spread (Host.reduceAdd (exps l) (constant S_ .f32 0x00000000#32) reducesTo_S8x1024x1024_S8x1024_d2 h_S_))) T

/-- The mask with a trailing axis of one column. -/
def maskCol (M : IVec S8x1024 1) : IVec S8x1024x1 1 := broadcastInDim S8x1024x1 ![0, 1] bcast_S8x1024_S8x1024x1_0_1 M

/-- The two halves' code vectors side by side, -/
def catVecs (a b : FVec F S8x1024x128 .f32) : FVec F S8x1024x256 .f32 :=
  concatenate S8x1024x256 2 [⟨S8x1024x128, a⟩, ⟨S8x1024x128, b⟩] concatenates_S8x1024x128_S8x1024x128_S8x1024x256_d2
/-- and their code words. -/
def catWords (a b : IVec S8x1024x1 32) : IVec S8x1024x2 32 :=
  concatenate S8x1024x2 2 [⟨S8x1024x1, a⟩, ⟨S8x1024x1, b⟩] concatenates_S8x1024x1_S8x1024x1_S8x1024x2_d2

/-- The first result: the code vectors of the two halves side by side, zero where the mask is not set. -/
def outVecs (l0 l1 : FVec F S8x1024x1024 .f32) (M : IVec S8x1024 1) (T : FVec F S1024x128 .f32) : FVec F S8x1024x256 .f32 :=
  select (broadcastInDim S8x1024x256 ![0, 1, 2] bcast_S8x1024x1_S8x1024x256_0_1_2 (maskCol M))
    (catVecs (vecs l0 T) (vecs l1 T))
    (broadcastInDim S8x1024x256 ![] bcast_S_S8x1024x256 (constant S_ .f32 0x00000000#32))

/-- The second result: the code words of the two halves side by side, zero where the mask is not set. -/
def outWords (l0 l1 : FVec F S8x1024x1024 .f32) (M : IVec S8x1024 1) : IVec S8x1024x2 32 :=
  select (broadcastInDim S8x1024x2 ![0, 1, 2] bcast_S8x1024x1_S8x1024x2_0_1_2 (maskCol M))
    (catWords (broadcastInDim S8x1024x1 ![0, 1] bcast_S8x1024_S8x1024x1_0_1 (words l0))
      (broadcastInDim S8x1024x1 ![0, 1] bcast_S8x1024_S8x1024x1_0_1 (words l1)))
    (broadcastInDim S8x1024x2 ![] bcast_S_S8x1024x2 (constantI S_ 32 0#32))

/-! ## The run -/

/-- @main's operations in order, the calls unfolded: `argmax` is five operations into its call's buffers, each `where` two. -/
abbrev ops : List (HloOp τ sig (Elt F)) :=
  [ unary main_arg0 main_v0 ((extractStridedSlice S8x1024x128 ![0, 0, 0] · slices_S8x1024x256_S8x1024x128_0_0_0) : (⟨S8x1024x256, .f32⟩ : BufTy).Contents (Elt F) → (⟨S8x1024x128, .f32⟩ : BufTy).Contents (Elt F)),
    unary main_arg0 main_v1 ((extractStridedSlice S8x1024x128 ![0, 0, 128] · slices_S8x1024x256_S8x1024x128_0_0_128) : (⟨S8x1024x256, .f32⟩ : BufTy).Contents (Elt F) → (⟨S8x1024x128, .f32⟩ : BufTy).Contents (Elt F)),
    unary main_arg2 main_v2 ((transpose S128x1024 [1, 0] · transposes_S1024x128_S128x1024_1_0) : (⟨S1024x128, .f32⟩ : BufTy).Contents (Elt F) → (⟨S128x1024, .f32⟩ : BufTy).Contents (Elt F)),
    binary main_v0 main_v2 main_v3 ((fun l r => Host.dotGeneral dot_S8x1024x128_S128x1024_S8x1024x1024_2_0_01_1_n_n none l r) : (⟨S8x1024x128, .f32⟩ : BufTy).Contents (Elt F) → (⟨S128x1024, .f32⟩ : BufTy).Contents (Elt F) → (⟨S8x1024x1024, .f32⟩ : BufTy).Contents (Elt F)),
    unary main_arg3 main_v4 (broadcastInDim S1x1x1024 ![2] bcast_S1024_S1x1x1024_2 : (⟨S1024, .f32⟩ : BufTy).Contents (Elt F) → (⟨S1x1x1024, .f32⟩ : BufTy).Contents (Elt F)),
    unary main_v4 main_v5 (broadcastInDim S8x1024x1024 ![0, 1, 2] bcast_S1x1x1024_S8x1024x1024_0_1_2 : (⟨S1x1x1024, .f32⟩ : BufTy).Contents (Elt F) → (⟨S8x1024x1024, .f32⟩ : BufTy).Contents (Elt F)),
    binary main_v3 main_v5 main_v6 (addf : (⟨S8x1024x1024, .f32⟩ : BufTy).Contents (Elt F) → (⟨S8x1024x1024, .f32⟩ : BufTy).Contents (Elt F) → (⟨S8x1024x1024, .f32⟩ : BufTy).Contents (Elt F)),
    nullary main_call0_v0 (iotaInDim S8x1024x1024 32 2),
    nullary main_call0_cst (constant S_ .f32 0xFF800000#32),
    nullary main_call0_c (constantI S_ 32 0#32),
    quaternary main_v6 main_call0_v0 main_call0_cst main_call0_c main_call0_v1_0 (argVal : (⟨S8x1024x1024, .f32⟩ : BufTy).Contents (Elt F) → (⟨S8x1024x1024, .i32⟩ : BufTy).Contents (Elt F) → (⟨S_, .f32⟩ : BufTy).Contents (Elt F) → (⟨S_, .i32⟩ : BufTy).Contents (Elt F) → (⟨S8x1024, .f32⟩ : BufTy).Contents (Elt F)),
    quaternary main_v6 main_call0_v0 main_call0_cst main_call0_c main_v7 (argPos : (⟨S8x1024x1024, .f32⟩ : BufTy).Contents (Elt F) → (⟨S8x1024x1024, .i32⟩ : BufTy).Contents (Elt F) → (⟨S_, .f32⟩ : BufTy).Contents (Elt F) → (⟨S_, .i32⟩ : BufTy).Contents (Elt F) → (⟨S8x1024, .i32⟩ : BufTy).Contents (Elt F)),
    nullary main_cst (constant S_ .f32 0xFF800000#32),
    binary main_v6 main_cst main_v8 ((fun x v => Host.reduce FloatOps.maximumf x v reducesTo_S8x1024x1024_S8x1024_d2 h_S_) : (⟨S8x1024x1024, .f32⟩ : BufTy).Contents (Elt F) → (⟨S_, .f32⟩ : BufTy).Contents (Elt F) → (⟨S8x1024, .f32⟩ : BufTy).Contents (Elt F)),
    nullary main_cst_0 (constant S_ .f32 0xFF800000#32),
    unary main_cst_0 main_v9 (broadcastInDim S8x1024 ![] bcast_S_S8x1024 : (⟨S_, .f32⟩ : BufTy).Contents (Elt F) → (⟨S8x1024, .f32⟩ : BufTy).Contents (Elt F)),
    binary main_v9 main_v8 main_v10 (maximumf : (⟨S8x1024, .f32⟩ : BufTy).Contents (Elt F) → (⟨S8x1024, .f32⟩ : BufTy).Contents (Elt F) → (⟨S8x1024, .f32⟩ : BufTy).Contents (Elt F)),
    unary main_v10 main_v11 (broadcastInDim S8x1024x1 ![0, 1] bcast_S8x1024_S8x1024x1_0_1 : (⟨S8x1024, .f32⟩ : BufTy).Contents (Elt F) → (⟨S8x1024x1, .f32⟩ : BufTy).Contents (Elt F)),
    unary main_v11 main_v12 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
    binary main_v6 main_v12 main_v13 (subf : (⟨S8x1024x1024, .f32⟩ : BufTy).Contents (Elt F) → (⟨S8x1024x1024, .f32⟩ : BufTy).Contents (Elt F) → (⟨S8x1024x1024, .f32⟩ : BufTy).Contents (Elt F)),
    unary main_v13 main_v14 (Host.exp : (⟨S8x1024x1024, .f32⟩ : BufTy).Contents (Elt F) → (⟨S8x1024x1024, .f32⟩ : BufTy).Contents (Elt F)),
    nullary main_cst_1 (constant S_ .f32 0x00000000#32),
    binary main_v14 main_cst_1 main_v15 ((fun x v => Host.reduceAdd x v reducesTo_S8x1024x1024_S8x1024_d2 h_S_) : (⟨S8x1024x1024, .f32⟩ : BufTy).Contents (Elt F) → (⟨S_, .f32⟩ : BufTy).Contents (Elt F) → (⟨S8x1024, .f32⟩ : BufTy).Contents (Elt F)),
    unary main_v15 main_v16 (broadcastInDim S8x1024x1 ![0, 1] bcast_S8x1024_S8x1024x1_0_1 : (⟨S8x1024, .f32⟩ : BufTy).Contents (Elt F) → (⟨S8x1024x1, .f32⟩ : BufTy).Contents (Elt F)),
    unary main_v16 main_v17 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
    binary main_v14 main_v17 main_v18 (Host.divf : (⟨S8x1024x1024, .f32⟩ : BufTy).Contents (Elt F) → (⟨S8x1024x1024, .f32⟩ : BufTy).Contents (Elt F) → (⟨S8x1024x1024, .f32⟩ : BufTy).Contents (Elt F)),
    binary main_v18 main_arg4 main_v19 ((fun l r => Host.dotGeneral dot_S8x1024x1024_S1024x128_S8x1024x128_2_0_01_1_n_n none l r) : (⟨S8x1024x1024, .f32⟩ : BufTy).Contents (Elt F) → (⟨S1024x128, .f32⟩ : BufTy).Contents (Elt F) → (⟨S8x1024x128, .f32⟩ : BufTy).Contents (Elt F)),
    unary main_arg2 main_v20 ((transpose S128x1024 [1, 0] · transposes_S1024x128_S128x1024_1_0) : (⟨S1024x128, .f32⟩ : BufTy).Contents (Elt F) → (⟨S128x1024, .f32⟩ : BufTy).Contents (Elt F)),
    binary main_v1 main_v20 main_v21 ((fun l r => Host.dotGeneral dot_S8x1024x128_S128x1024_S8x1024x1024_2_0_01_1_n_n none l r) : (⟨S8x1024x128, .f32⟩ : BufTy).Contents (Elt F) → (⟨S128x1024, .f32⟩ : BufTy).Contents (Elt F) → (⟨S8x1024x1024, .f32⟩ : BufTy).Contents (Elt F)),
    unary main_arg3 main_v22 (broadcastInDim S1x1x1024 ![2] bcast_S1024_S1x1x1024_2 : (⟨S1024, .f32⟩ : BufTy).Contents (Elt F) → (⟨S1x1x1024, .f32⟩ : BufTy).Contents (Elt F)),
    unary main_v22 main_v23 (broadcastInDim S8x1024x1024 ![0, 1, 2] bcast_S1x1x1024_S8x1024x1024_0_1_2 : (⟨S1x1x1024, .f32⟩ : BufTy).Contents (Elt F) → (⟨S8x1024x1024, .f32⟩ : BufTy).Contents (Elt F)),
    binary main_v21 main_v23 main_v24 (addf : (⟨S8x1024x1024, .f32⟩ : BufTy).Contents (Elt F) → (⟨S8x1024x1024, .f32⟩ : BufTy).Contents (Elt F) → (⟨S8x1024x1024, .f32⟩ : BufTy).Contents (Elt F)),
    nullary main_call1_v0 (iotaInDim S8x1024x1024 32 2),
    nullary main_call1_cst (constant S_ .f32 0xFF800000#32),
    nullary main_call1_c (constantI S_ 32 0#32),
    quaternary main_v24 main_call1_v0 main_call1_cst main_call1_c main_call1_v1_0 (argVal : (⟨S8x1024x1024, .f32⟩ : BufTy).Contents (Elt F) → (⟨S8x1024x1024, .i32⟩ : BufTy).Contents (Elt F) → (⟨S_, .f32⟩ : BufTy).Contents (Elt F) → (⟨S_, .i32⟩ : BufTy).Contents (Elt F) → (⟨S8x1024, .f32⟩ : BufTy).Contents (Elt F)),
    quaternary main_v24 main_call1_v0 main_call1_cst main_call1_c main_v25 (argPos : (⟨S8x1024x1024, .f32⟩ : BufTy).Contents (Elt F) → (⟨S8x1024x1024, .i32⟩ : BufTy).Contents (Elt F) → (⟨S_, .f32⟩ : BufTy).Contents (Elt F) → (⟨S_, .i32⟩ : BufTy).Contents (Elt F) → (⟨S8x1024, .i32⟩ : BufTy).Contents (Elt F)),
    nullary main_cst_2 (constant S_ .f32 0xFF800000#32),
    binary main_v24 main_cst_2 main_v26 ((fun x v => Host.reduce FloatOps.maximumf x v reducesTo_S8x1024x1024_S8x1024_d2 h_S_) : (⟨S8x1024x1024, .f32⟩ : BufTy).Contents (Elt F) → (⟨S_, .f32⟩ : BufTy).Contents (Elt F) → (⟨S8x1024, .f32⟩ : BufTy).Contents (Elt F)),
    nullary main_cst_3 (constant S_ .f32 0xFF800000#32),
    unary main_cst_3 main_v27 (broadcastInDim S8x1024 ![] bcast_S_S8x1024 : (⟨S_, .f32⟩ : BufTy).Contents (Elt F) → (⟨S8x1024, .f32⟩ : BufTy).Contents (Elt F)),
    binary main_v27 main_v26 main_v28 (maximumf : (⟨S8x1024, .f32⟩ : BufTy).Contents (Elt F) → (⟨S8x1024, .f32⟩ : BufTy).Contents (Elt F) → (⟨S8x1024, .f32⟩ : BufTy).Contents (Elt F)),
    unary main_v28 main_v29 (broadcastInDim S8x1024x1 ![0, 1] bcast_S8x1024_S8x1024x1_0_1 : (⟨S8x1024, .f32⟩ : BufTy).Contents (Elt F) → (⟨S8x1024x1, .f32⟩ : BufTy).Contents (Elt F)),
    unary main_v29 main_v30 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
    binary main_v24 main_v30 main_v31 (subf : (⟨S8x1024x1024, .f32⟩ : BufTy).Contents (Elt F) → (⟨S8x1024x1024, .f32⟩ : BufTy).Contents (Elt F) → (⟨S8x1024x1024, .f32⟩ : BufTy).Contents (Elt F)),
    unary main_v31 main_v32 (Host.exp : (⟨S8x1024x1024, .f32⟩ : BufTy).Contents (Elt F) → (⟨S8x1024x1024, .f32⟩ : BufTy).Contents (Elt F)),
    nullary main_cst_4 (constant S_ .f32 0x00000000#32),
    binary main_v32 main_cst_4 main_v33 ((fun x v => Host.reduceAdd x v reducesTo_S8x1024x1024_S8x1024_d2 h_S_) : (⟨S8x1024x1024, .f32⟩ : BufTy).Contents (Elt F) → (⟨S_, .f32⟩ : BufTy).Contents (Elt F) → (⟨S8x1024, .f32⟩ : BufTy).Contents (Elt F)),
    unary main_v33 main_v34 (broadcastInDim S8x1024x1 ![0, 1] bcast_S8x1024_S8x1024x1_0_1 : (⟨S8x1024, .f32⟩ : BufTy).Contents (Elt F) → (⟨S8x1024x1, .f32⟩ : BufTy).Contents (Elt F)),
    unary main_v34 main_v35 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
    binary main_v32 main_v35 main_v36 (Host.divf : (⟨S8x1024x1024, .f32⟩ : BufTy).Contents (Elt F) → (⟨S8x1024x1024, .f32⟩ : BufTy).Contents (Elt F) → (⟨S8x1024x1024, .f32⟩ : BufTy).Contents (Elt F)),
    binary main_v36 main_arg4 main_v37 ((fun l r => Host.dotGeneral dot_S8x1024x1024_S1024x128_S8x1024x128_2_0_01_1_n_n none l r) : (⟨S8x1024x1024, .f32⟩ : BufTy).Contents (Elt F) → (⟨S1024x128, .f32⟩ : BufTy).Contents (Elt F) → (⟨S8x1024x128, .f32⟩ : BufTy).Contents (Elt F)),
    binary main_v19 main_v37 main_v38 (catVecs : (⟨S8x1024x128, .f32⟩ : BufTy).Contents (Elt F) → (⟨S8x1024x128, .f32⟩ : BufTy).Contents (Elt F) → (⟨S8x1024x256, .f32⟩ : BufTy).Contents (Elt F)),
    unary main_v7 main_v39 (broadcastInDim S8x1024x1 ![0, 1] bcast_S8x1024_S8x1024x1_0_1 : (⟨S8x1024, .i32⟩ : BufTy).Contents (Elt F) → (⟨S8x1024x1, .i32⟩ : BufTy).Contents (Elt F)),
    unary main_v25 main_v40 (broadcastInDim S8x1024x1 ![0, 1] bcast_S8x1024_S8x1024x1_0_1 : (⟨S8x1024, .i32⟩ : BufTy).Contents (Elt F) → (⟨S8x1024x1, .i32⟩ : BufTy).Contents (Elt F)),
    binary main_v39 main_v40 main_v41 (catWords : (⟨S8x1024x1, .i32⟩ : BufTy).Contents (Elt F) → (⟨S8x1024x1, .i32⟩ : BufTy).Contents (Elt F) → (⟨S8x1024x2, .i32⟩ : BufTy).Contents (Elt F)),
    unary main_arg1 main_v42 (broadcastInDim S8x1024x1 ![0, 1] bcast_S8x1024_S8x1024x1_0_1 : (⟨S8x1024, .i1⟩ : BufTy).Contents (Elt F) → (⟨S8x1024x1, .i1⟩ : BufTy).Contents (Elt F)),
    nullary main_cst_5 (constant S_ .f32 0x00000000#32),
    unary main_cst_5 main_v43 (broadcastInDim S8x1024x256 ![] bcast_S_S8x1024x256 : (⟨S_, .f32⟩ : BufTy).Contents (Elt F) → (⟨S8x1024x256, .f32⟩ : BufTy).Contents (Elt F)),
    unary main_v42 main_call2_v0 ((broadcastInDim S8x1024x256 ![0, 1, 2] bcast_S8x1024x1_S8x1024x256_0_1_2) : (⟨S8x1024x1, .i1⟩ : BufTy).Contents (Elt F) → (⟨S8x1024x256, .i1⟩ : BufTy).Contents (Elt F)),
    ternary main_call2_v0 main_v38 main_v43 main_v44 (select : (⟨S8x1024x256, .i1⟩ : BufTy).Contents (Elt F) → (⟨S8x1024x256, .f32⟩ : BufTy).Contents (Elt F) → (⟨S8x1024x256, .f32⟩ : BufTy).Contents (Elt F) → (⟨S8x1024x256, .f32⟩ : BufTy).Contents (Elt F)),
    nullary main_c (constantI S_ 32 0#32),
    unary main_c main_v45 (broadcastInDim S8x1024x2 ![] bcast_S_S8x1024x2 : (⟨S_, .i32⟩ : BufTy).Contents (Elt F) → (⟨S8x1024x2, .i32⟩ : BufTy).Contents (Elt F)),
    unary main_v42 main_call3_v0 ((broadcastInDim S8x1024x2 ![0, 1, 2] bcast_S8x1024x1_S8x1024x2_0_1_2) : (⟨S8x1024x1, .i1⟩ : BufTy).Contents (Elt F) → (⟨S8x1024x2, .i1⟩ : BufTy).Contents (Elt F)),
    ternary main_call3_v0 main_v41 main_v45 main_v46 (select : (⟨S8x1024x2, .i1⟩ : BufTy).Contents (Elt F) → (⟨S8x1024x2, .i32⟩ : BufTy).Contents (Elt F) → (⟨S8x1024x2, .i32⟩ : BufTy).Contents (Elt F) → (⟨S8x1024x2, .i32⟩ : BufTy).Contents (Elt F)) ]

theorem main_eq (c : Dev nD) : main (F := F) c = seq ops := rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., unary_bufs_sub .., unary_bufs_sub .., binary_bufs_sub .., unary_bufs_sub .., unary_bufs_sub ..,
    binary_bufs_sub .., nullary_bufs_sub .., nullary_bufs_sub .., nullary_bufs_sub .., quaternary_bufs_sub ..,
    quaternary_bufs_sub .., nullary_bufs_sub .., binary_bufs_sub .., nullary_bufs_sub .., unary_bufs_sub .., binary_bufs_sub
    .., unary_bufs_sub .., unary_bufs_sub .., binary_bufs_sub .., unary_bufs_sub .., nullary_bufs_sub .., binary_bufs_sub
    .., unary_bufs_sub .., unary_bufs_sub .., binary_bufs_sub .., binary_bufs_sub .., unary_bufs_sub .., binary_bufs_sub ..,
    unary_bufs_sub .., unary_bufs_sub .., binary_bufs_sub .., nullary_bufs_sub .., nullary_bufs_sub .., nullary_bufs_sub ..,
    quaternary_bufs_sub .., quaternary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    binary_bufs_sub .., unary_bufs_sub .., unary_bufs_sub .., binary_bufs_sub .., unary_bufs_sub .., nullary_bufs_sub ..,
    unary_bufs_sub .., unary_bufs_sub .., ternary_bufs_sub .., nullary_bufs_sub .., unary_bufs_sub .., unary_bufs_sub ..,
    ternary_bufs_sub ..⟩

/-- No operation writes an argument buffer. -/
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl

/-- The fold of the operations, at the first result's buffer: -/
theorem vecs_eq (V : Valuation τ sig (Elt F)) :
    after ops V (main_v44 : DevRef τ sig)
      = outVecs (logits (half0 (V (main_arg0 : DevRef τ sig))) (V (main_arg2 : DevRef τ sig)) (V (main_arg3 : DevRef τ sig)))
          (logits (half1 (V (main_arg0 : DevRef τ sig))) (V (main_arg2 : DevRef τ sig)) (V (main_arg3 : DevRef τ sig)))
          (V (main_arg1 : DevRef τ sig)) (V (main_arg4 : DevRef τ sig)) := by
  after_results_simp
  rfl

/-- and at the second's. -/
theorem words_eq (V : Valuation τ sig (Elt F)) :
    after ops V (main_v46 : DevRef τ sig)
      = outWords (logits (half0 (V (main_arg0 : DevRef τ sig))) (V (main_arg2 : DevRef τ sig)) (V (main_arg3 : DevRef τ sig)))
          (logits (half1 (V (main_arg0 : DevRef τ sig))) (V (main_arg2 : DevRef τ sig)) (V (main_arg3 : DevRef τ sig)))
          (V (main_arg1 : DevRef τ sig)) := by
  after_results_simp
  rfl

/-- From any memory with zero counters every weakly fair execution of @main ends, with the two result buffers at the stages'
    terms over the arguments' launch contents and the arguments at what they held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
        = outVecs (logits (half0 (m ((c.tc : Thread nD τ).loc main_arg0))) (m ((c.tc : Thread nD τ).loc main_arg2)) (m ((c.tc : Thread nD τ).loc main_arg3)))
            (logits (half1 (m ((c.tc : Thread nD τ).loc main_arg0))) (m ((c.tc : Thread nD τ).loc main_arg2)) (m ((c.tc : Thread nD τ).loc main_arg3)))
            (m ((c.tc : Thread nD τ).loc main_arg1)) (m ((c.tc : Thread nD τ).loc main_arg4))
      ∧ r.2.mem ((c.tc : Thread nD τ).loc main_v46)
        = outWords (logits (half0 (m ((c.tc : Thread nD τ).loc main_arg0))) (m ((c.tc : Thread nD τ).loc main_arg2)) (m ((c.tc : Thread nD τ).loc main_arg3)))
            (logits (half1 (m ((c.tc : Thread nD τ).loc main_arg0))) (m ((c.tc : Thread nD τ).loc main_arg2)) (m ((c.tc : Thread nD τ).loc main_arg3)))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v44).trans (vecs_eq _), (h c main_v46).trans (words_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.Proof.RefRun

end
-- ==== Proof.PreReal.lean ====
/-
  THE PRECONDITION (hand-written): `finite_logits` says that every entry of the inputs, of the weights and of the bias is a
  real number.
-/
module

public import proofs.«01_k».proof.Defs
public import proofs.«01_k».proof.Proof.Gen.Pre_finite_logits
public import Idealize.ShloMosaic.Lib.ReduceAll
public import Idealize.ShloMosaic.PureOps.Ideal.Laws

@[expose] public section

set_option maxRecDepth 16384

noncomputable section

namespace Cert.Proof.PreReal

open Idealize.ShloMosaic Idealize.ShloMosaic.TcCoe Idealize.SL.Sem

theorem posInf : Ideal.ofBits .f32 0x7F800000#32 = (⊤ : EReal) := by simp [Ideal.ofBits, Ideal.ieee]

/-- A value whose magnitude compares below positive infinity is a real number. -/
theorem real_of_lt (a b : EReal) (hb : b = ⊤)
    (h : FloatOps.cmpf (F := Ideal) (φ := .f32) .olt (FloatOps.absf (F := Ideal) (φ := .f32) a) b = 1#1) : ∃ r : ℝ, a = (r : EReal) := by
  subst hb
  rw [Ideal.cmpf_def, Ideal.absf_def] at h
  have h' : max a (-a) < (⊤ : EReal) := by
    by_contra hn
    simp [Ideal.cmp, hn] at h
  induction a using EReal.rec with
  | bot => exact absurd h' (by simp)
  | coe r => exact ⟨r, rfl⟩
  | top => exact absurd h' (by simp)

/-- So an array every one of whose entries compares so holds real numbers. -/
theorem real_of_all {s t u : Shape} {axes : List (Fin s.rank)} [Subsingleton t.Idx] (x b : FVec Ideal s .f32) (i : u.Idx → BitVec 1)
    (h : s.ReducesTo axes t) (hu : 0 < u.numel) (j : t.Idx) (hb : ∀ k, b k = (⊤ : EReal))
    (e : Host.reduce IntOp.andi (cmpf .olt (Host.absf x) b) i h hu j = 1#1) (k : s.Idx) : ∃ r : ℝ, x k = (r : EReal) :=
  real_of_lt (x k) (b k) (hb k) (Host.reduce_andi_all _ i h hu j e k)

theorem andi_eq_one {a b : BitVec 1} (h : IntOp.andi a b = 1#1) : a = 1#1 ∧ b = 1#1 := by
  revert a b
  decide

section

open Cert.Pre_finite_logits Cert.Pre_finite_logits.Gen

/-- The precondition's three conjuncts, entry by entry. -/
theorem real_of_fn (X : FVec Ideal S8x1024x256 .f32) (M : IVec S8x1024 1) (W : FVec Ideal S1024x128 .f32) (B : FVec Ideal S1024 .f32)
    (T : FVec Ideal S1024x128 .f32) (j : S_.Idx) (h : fn (F := Ideal) X M W B T j = 1#1) :
    (∀ k, ∃ r : ℝ, X k = (r : EReal)) ∧ (∀ k, ∃ r : ℝ, W k = (r : EReal)) ∧ ∀ k, ∃ r : ℝ, B k = (r : EReal) := by
  haveI : Subsingleton S_.Idx := ⟨fun a b => funext fun d => d.elim0⟩
  obtain ⟨h1, h3⟩ := andi_eq_one h
  obtain ⟨h1, h2⟩ := andi_eq_one h1
  exact ⟨real_of_all X _ _ _ _ _ (fun _ => posInf) h1, real_of_all W _ _ _ _ _ (fun _ => posInf) h2,
    real_of_all B _ _ _ _ _ (fun _ => posInf) h3⟩

end

end Cert.Proof.PreReal

end
-- ==== Proof.Rows.lean ====
/-
  ROWS OF EXTENDED REALS (hand-written): what both programs do with one row of 1024 logits, and why the two ways agree.
  The kernel takes the least position whose logit is the row's maximum, and divides the weighted sum of the code vectors
  by the sum of the weights; the reference folds an arg-max over the row, and divides every weight before it sums.
-/
module

public import Idealize.ShloMosaic.PureOps.Ideal.Laws
public import Idealize.ShloMosaic.Lib.Pointwise

@[expose] public section

noncomputable section

namespace Cert.Proof.Rows

open Idealize.ShloMosaic

/-- A row's maximum, from negative infinity. -/
def top (l : Fin 1024 → EReal) : EReal := Finset.univ.fold max ⊥ l

/-- The least position at the row's maximum, as the kernel computes it. -/
def pick (l : Fin 1024 → EReal) : BitVec 32 :=
  Finset.univ.fold IntOp.minsi 2147483647#32 fun j => if l j = top l then BitVec.ofNat 32 j else 1024#32

/-- The code vector's entry of a row, as the kernel computes it: the weighted sum over the sum of the weights. -/
def mix (l v : Fin 1024 → EReal) : EReal :=
  Ideal.div (∑ j, Ideal.exp (l j - top l) * v j) (∑ j, Ideal.exp (l j - top l))

theorem le_top (l : Fin 1024 → EReal) (j : Fin 1024) : l j ≤ top l :=
  (Finset.le_fold_max _).mpr (.inr ⟨j, Finset.mem_univ j, le_rfl⟩)

theorem top_le (l : Fin 1024 → EReal) (c : EReal) (h : ∀ j, l j ≤ c) : top l ≤ c :=
  (Finset.fold_max_le _).mpr ⟨bot_le, fun j _ => h j⟩

/-- The maximum is attained. -/
theorem exists_top (l : Fin 1024 → EReal) : ∃ j, l j = top l := by
  obtain ⟨j, -, hj⟩ := Finset.exists_max_image Finset.univ l ⟨0, Finset.mem_univ _⟩
  exact ⟨j, le_antisymm (le_top l j) (top_le l _ fun i => hj i (Finset.mem_univ i))⟩

/-! ## The arg-max -/

/-- The signed reading of the kernel's fold of signed minima. -/
theorem toInt_fold_minsi (b : BitVec 32) (f : Fin 1024 → BitVec 32) :
    (Finset.univ.fold IntOp.minsi b f).toInt = Finset.univ.fold min b.toInt fun j => (f j).toInt := by
  refine (Finset.fold_hom (op' := (min : ℤ → ℤ → ℤ)) (m := BitVec.toInt) fun x y => ?_).symm
  unfold IntOp.minsi
  rw [BitVec.slt_eq_decide]
  by_cases h : x.toInt < y.toInt
  · simp [h, h.le]
  · simp [h, not_lt.mp h]

theorem toInt_pos (j : Fin 1024) : (BitVec.ofNat 32 (j : ℕ)).toInt = (j : ℤ) := by
  have := j.isLt
  rw [BitVec.toInt_eq_toNat_of_lt (by rw [BitVec.toNat_ofNat]; omega), BitVec.toNat_ofNat, Nat.mod_eq_of_lt (by omega)]

/-- A position at the maximum below every other such position is what the kernel's fold returns. -/
theorem pick_eq (l : Fin 1024 → EReal) (i : Fin 1024) (hi : l i = top l) (hmin : ∀ j, l j = top l → i ≤ j) :
    pick l = BitVec.ofNat 32 (i : ℕ) := by
  apply BitVec.eq_of_toInt_eq
  unfold pick
  rw [toInt_fold_minsi, toInt_pos]
  have hlt := i.isLt
  apply le_antisymm
  · refine (Finset.fold_min_le _).mpr (.inr ⟨i, Finset.mem_univ i, ?_⟩)
    rw [if_pos hi, toInt_pos]
  · refine (Finset.le_fold_min _).mpr ⟨?_, fun j _ => ?_⟩
    · have : (2147483647#32 : BitVec 32).toInt = 2147483647 := by decide
      omega
    · by_cases hj : l j = top l
      · rw [if_pos hj, toInt_pos]
        have : (i : ℕ) ≤ (j : ℕ) := hmin j hj
        omega
      · rw [if_neg hj]
        have : (1024#32 : BitVec 32).toInt = 1024 := by decide
        omega

/-- The order the reference's reducer maximises: by value, and at equal values the smaller position. -/
def Beats (p q : EReal × BitVec 32) : Prop := q.1 < p.1 ∨ (q.1 = p.1 ∧ p.2.toInt ≤ q.2.toInt)

theorem Beats.refl (p : EReal × BitVec 32) : Beats p p := .inr ⟨rfl, le_rfl⟩

theorem Beats.trans {p q r : EReal × BitVec 32} (h : Beats p q) (h' : Beats q r) : Beats p r := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- A fold whose step keeps one of its two pairs, the one that beats the other, ends at a pair of the list that beats them all. -/
theorem foldl_beats (f : EReal × BitVec 32 → EReal × BitVec 32 → EReal × BitVec 32)
    (hf : ∀ a b, (f a b = a ∨ f a b = b) ∧ Beats (f a b) a ∧ Beats (f a b) b) :
    ∀ (L : List (EReal × BitVec 32)) (a : EReal × BitVec 32),
      L.foldl f a ∈ a :: L ∧ ∀ p ∈ a :: L, Beats (L.foldl f a) p := by
  intro L
  induction L with
  | nil =>
    intro a
    refine ⟨List.mem_singleton.mpr rfl, fun p hp => ?_⟩
    rw [List.mem_singleton.mp hp]
    exact .refl a
  | cons b L ih =>
    intro a
    obtain ⟨hm, hb⟩ := ih (f a b)
    obtain ⟨hab, h1, h2⟩ := hf a b
    have hroot := hb (f a b) (List.mem_cons_self ..)
    refine ⟨?_, fun p hp => ?_⟩
    · rcases List.mem_cons.mp hm with h | h
      · rw [List.foldl_cons, h]
        rcases hab with e | e <;> rw [e] <;> simp
      · exact List.mem_cons_of_mem _ (List.mem_cons_of_mem _ h)
    · rcases List.mem_cons.mp hp with rfl | hp
      · exact hroot.trans h1
      · rcases List.mem_cons.mp hp with rfl | hp
        · exact hroot.trans h2
        · exact hb p (List.mem_cons_of_mem _ hp)

/-- So the arg-max fold over a row's pairs, in any order, from negative infinity at position zero, ends at the position the
    kernel picks. -/
theorem foldl_eq_pick (f : EReal × BitVec 32 → EReal × BitVec 32 → EReal × BitVec 32)
    (hf : ∀ a b, (f a b = a ∨ f a b = b) ∧ Beats (f a b) a ∧ Beats (f a b) b) (l : Fin 1024 → EReal)
    (L : List (EReal × BitVec 32)) (hL : ∀ p, p ∈ L ↔ ∃ j : Fin 1024, p = (l j, BitVec.ofNat 32 (j : ℕ))) :
    (L.foldl f (⊥, 0#32)).2 = pick l := by
  obtain ⟨hm, hb⟩ := foldl_beats f hf L (⊥, 0#32)
  generalize L.foldl f (⊥, 0#32) = r at hm hb ⊢
  have hall (j : Fin 1024) : Beats r (l j, BitVec.ofNat 32 (j : ℕ)) := hb _ (List.mem_cons_of_mem _ ((hL _).mpr ⟨j, rfl⟩))
  have hmax : top l ≤ r.1 := top_le l _ fun j => by
    rcases hall j with h | h
    · exact h.le
    · exact h.1.le
  have least (i : Fin 1024) (hr : r = (l i, BitVec.ofNat 32 (i : ℕ))) : r.2 = pick l := by
    have hi : l i = top l := le_antisymm (le_top l i) (by rw [hr] at hmax; exact hmax)
    rw [pick_eq l i hi fun j hj => ?_, hr]
    rcases hall j with h | h
    · rw [hr, hi, ← hj] at h; exact absurd h (lt_irrefl _)
    · have := h.2
      rw [hr] at this
      dsimp only at this
      rw [toInt_pos, toInt_pos] at this
      exact Fin.le_def.mpr (by omega)
  rcases List.mem_cons.mp hm with h | h
  · refine least 0 ?_
    have h0 : l 0 = ⊥ := le_bot_iff.mp ((le_top l 0).trans (by rw [h] at hmax; exact hmax))
    rw [h, h0]; rfl
  · obtain ⟨i, hi⟩ := (hL r).mp h
    exact least i hi

/-! ## The softmax -/

theorem exp_coe (r : ℝ) : Ideal.exp (r : EReal) = (Real.exp r : EReal) := rfl

/-- A positive real factor goes through a sum of extended reals. -/
theorem mul_sum_of_pos (c : ℝ) (hc : 0 ≤ c) (f : Fin 1024 → EReal) : (c : EReal) * ∑ j, f j = ∑ j, (c : EReal) * f j := by
  induction (Finset.univ : Finset (Fin 1024)) using Finset.cons_induction with
  | empty => simp
  | cons a S ha ih => rw [Finset.sum_cons, Finset.sum_cons,
      EReal.left_distrib_of_nonneg_of_ne_top (EReal.coe_nonneg.mpr hc) (EReal.coe_ne_top c), ih]

/-- A sum of real numbers, read among the extended reals. -/
theorem coe_sum (n : ℕ) (f : Fin n → ℝ) : ((∑ k, f k : ℝ) : EReal) = ∑ k, (f k : EReal) := by
  induction (Finset.univ : Finset (Fin n)) using Finset.cons_induction with
  | empty => simp
  | cons a S ha ih => rw [Finset.sum_cons, Finset.sum_cons, EReal.coe_add, ih]

/-- On a row of real logits, dividing each weight by the sum of the weights and then summing is dividing the weighted sum. -/
theorem sum_div_eq_mix (l v : Fin 1024 → EReal) (hl : ∀ j, ∃ x : ℝ, l j = (x : EReal)) :
    ∑ j, Ideal.div (Ideal.exp (l j - max ⊥ (top l))) (∑ k, Ideal.exp (l k - max ⊥ (top l))) * v j = mix l v := by
  rw [max_eq_right bot_le]
  unfold mix
  choose x hx using hl
  obtain ⟨i, hi⟩ := exists_top l
  have he (j : Fin 1024) : Ideal.exp (l j - top l) = ((Real.exp (x j - x i) : ℝ) : EReal) := by
    rw [← hi, hx, hx, ← EReal.coe_sub, exp_coe]
  simp only [he]
  have hs : (∑ k, ((Real.exp (x k - x i) : ℝ) : EReal)) = ((∑ k, Real.exp (x k - x i) : ℝ) : EReal) :=
    (coe_sum 1024 _).symm
  rw [hs]
  have hpos : 0 < ∑ k, Real.exp (x k - x i) := Finset.sum_pos (fun k _ => Real.exp_pos _) ⟨0, Finset.mem_univ _⟩
  rw [Ideal.div_coe hpos.ne', mul_comm, mul_sum_of_pos _ (one_div_nonneg.mpr hpos.le)]
  refine Finset.sum_congr rfl fun j _ => ?_
  rw [Ideal.div_coe hpos.ne', mul_comm _ ((_ : ℝ) : EReal), mul_assoc]

/-- A row of logits is real when the operands are. -/
theorem logit_real (n : ℕ) (x w : Fin n → EReal) (b : EReal) (hx : ∀ k, ∃ r : ℝ, x k = (r : EReal))
    (hw : ∀ k, ∃ r : ℝ, w k = (r : EReal)) (hb : ∃ r : ℝ, b = (r : EReal)) : ∃ r : ℝ, ∑ k, x k * w k + b = (r : EReal) := by
  choose x' hx' using hx
  choose w' hw' using hw
  obtain ⟨b', hb'⟩ := hb
  refine ⟨∑ k, x' k * w' k + b', ?_⟩
  rw [EReal.coe_add, coe_sum, hb']
  simp only [hx', hw', EReal.coe_mul]

end Cert.Proof.Rows

end
-- ==== Proof.KerPay.lean ====
/-
  THE KERNEL'S ARITHMETIC AT AN INDEX (hand-written): what the body of a grid point stores, entry by entry, over variable
  blocks, in the words of `Rows.lean`.
-/
module

public import proofs.«01_k».proof.Proof.Gen.KernelIdeal.Skeleton
public import proofs.«01_k».proof.Proof.Rows
public import Idealize.ShloMosaic.Lib.Pointwise

@[expose] public section

set_option maxRecDepth 16384

noncomputable section

namespace Cert.Proof.KerPay

open Cert.KernelIdeal Cert.KernelIdeal.Gen Cert.Proof.Rows
open Idealize.ShloMosaic Idealize.ShloMosaic.TcCoe Idealize.SL.Sem

/-- A row of logits of one half of the columns. -/
def rowLogits (b : Vec Ideal S1x1024 .f32) (w : Vec Ideal S1024x128 .f32) (x : Vec Ideal S2048x128 .f32) (r : Fin 2048) :
    Fin 1024 → EReal :=
  fun j => ∑ k : Fin 128, x (ix2 r k) * w (ix2 j k) + b (ix2 0 j)

theorem negInf : Ideal.ofBits .f32 0xFF800000#32 = (⊥ : EReal) := by simp [Ideal.ofBits, Ideal.ieee]

theorem pay6_at (m : Vec Ideal S2048x1 .i32) (r : Fin 2048) :
    k0_pay6 (F := Ideal) m (ix2 r 0) = IntOp.cmpi .ne (m (ix2 r 0)) 0#32 := by
  pointwise [k0_pay6]

theorem pay7_at (b : Vec Ideal S1x1024 .f32) (w : Vec Ideal S1024x128 .f32) (x : Vec Ideal S2048x128 .f32) (r : Fin 2048) (j : Fin 1024) :
    k0_pay7 b w x (ix2 r j) = rowLogits b w x r j := by
  unfold rowLogits
  pointwise [k0_pay7, k0_pay5]

theorem pay8_at (b : Vec Ideal S1x1024 .f32) (w : Vec Ideal S1024x128 .f32) (x : Vec Ideal S2048x128 .f32) (r : Fin 2048) (j : Fin 1024) :
    k0_pay8 b w x (ix2 r j) = rowLogits b w x r j := by
  unfold rowLogits
  pointwise [k0_pay8, k0_pay5]

/-- The softmax-weighted table entry over a block of logits. -/
theorem pay3_row (cv : Vec Ideal S1024x128 .f32) (k : IVec S2048x1 1) (l : FVec Ideal S2048x1024 .f32) (r : Fin 2048) (d : Fin 128) :
    k0_pay3 cv k l (ix2 r d) = Scalar.select (k (ix2 r 0)) (mix (fun j => l (ix2 r j)) fun j => cv (ix2 j d)) 0 := by
  unfold mix top
  rw [← negInf]
  pointwise [k0_pay3, k0_pay2]

theorem pay11_row (b : Vec Ideal S1x1024 .f32) (w : Vec Ideal S1024x128 .f32) (cv : Vec Ideal S1024x128 .f32)
    (x : Vec Ideal S2048x128 .f32) (r : Fin 2048) (d : Fin 128) :
    k0_pay11 b w cv x (ix2 r d) = mix (fun j => k0_pay7 b w x (ix2 r j)) fun j => cv (ix2 j d) := by
  unfold mix top
  rw [← negInf]
  pointwise [k0_pay11, k0_pay9]

theorem pay12_at (m : Vec Ideal S2048x1 .i32) (r : Fin 2048) (d : Fin 128) :
    k0_pay12 (F := Ideal) m (ix2 r d) = IntOp.cmpi .ne (m (ix2 r 0)) 0#32 := by
  pointwise [k0_pay12, k0_pay6]

theorem pay13_at (r : Fin 2048) (d : Fin 128) : k0_pay13 (F := Ideal) (ix2 r d) = (0 : EReal) := by
  pointwise [k0_pay13]

theorem pay10_row (b : Vec Ideal S1x1024 .f32) (w : Vec Ideal S1024x128 .f32) (x : Vec Ideal S2048x128 .f32) (r : Fin 2048) :
    k0_pay10 b w x (ix2 r 0) = pick fun j => k0_pay7 b w x (ix2 r j) := by
  unfold pick top
  rw [← negInf]
  pointwise [k0_pay10, k0_pay9]

theorem pay4_row (k : IVec S2048x1 1) (l : FVec Ideal S2048x1024 .f32) (w : IVec S2048x1 32) (r : Fin 2048) (e : Fin 2) :
    k0_pay4 (F := Ideal) k l w (ix2 r e)
      = Scalar.select (k (ix2 r 0)) (if (e : ℕ) < 1 then w (ix2 r 0) else pick fun j => l (ix2 r j)) 0#32 := by
  unfold pick top
  rw [← negInf]
  obtain ⟨e, he⟩ := e
  interval_cases e
  · pointwise [k0_pay4, k0_pay2]
  · pointwise [k0_pay4, k0_pay2]

/-! ## The three stores -/

/-- The first half's code vectors, -/
theorem vecs0_at (b : Vec Ideal S1x1024 .f32) (w cv : Vec Ideal S1024x128 .f32) (x : Vec Ideal S2048x128 .f32)
    (m : Vec Ideal S2048x1 .i32) (r : Fin 2048) (d : Fin 128) :
    k0_pay1 (F := Ideal) (k0_pay11 b w cv x) (k0_pay12 (F := Ideal) m) (k0_pay13 (F := Ideal)) (ix2 r d)
      = Scalar.select (IntOp.cmpi .ne (m (ix2 r 0)) 0#32) (mix (rowLogits b w x r) fun j => cv (ix2 j d)) 0 := by
  unfold k0_pay1
  show Scalar.select _ _ _ = _
  rw [pay12_at, pay13_at, pay11_row]
  simp only [pay7_at]

/-- the second half's, -/
theorem vecs1_at (b : Vec Ideal S1x1024 .f32) (w cv : Vec Ideal S1024x128 .f32) (x : Vec Ideal S2048x128 .f32)
    (m : Vec Ideal S2048x1 .i32) (r : Fin 2048) (d : Fin 128) :
    k0_pay3 cv (k0_pay6 (F := Ideal) m) (k0_pay8 b w x) (ix2 r d)
      = Scalar.select (IntOp.cmpi .ne (m (ix2 r 0)) 0#32) (mix (rowLogits b w x r) fun j => cv (ix2 j d)) 0 := by
  rw [pay3_row, pay6_at]
  simp only [pay8_at]

/-- and the code words of both. -/
theorem words_at (b : Vec Ideal S1x1024 .f32) (w : Vec Ideal S1024x128 .f32) (x0 x1 : Vec Ideal S2048x128 .f32)
    (m : Vec Ideal S2048x1 .i32) (r : Fin 2048) (e : Fin 2) :
    k0_pay4 (F := Ideal) (k0_pay6 (F := Ideal) m) (k0_pay8 b w x1) (k0_pay10 b w x0) (ix2 r e)
      = Scalar.select (IntOp.cmpi .ne (m (ix2 r 0)) 0#32)
          (if (e : ℕ) < 1 then pick (rowLogits b w x0 r) else pick (rowLogits b w x1 r)) 0#32 := by
  rw [pay4_row, pay6_at, pay10_row]
  simp only [pay7_at, pay8_at]

end Cert.Proof.KerPay

end
-- ==== Proof.KerArr.lean ====
/-
  THE KERNEL'S ARRAYS (hand-written): the arrays the region leaves in its two output windows, as functions of the launch
  arguments. Row `R` of the flattened arrays is row `R % 1024` of batch `R / 1024`.
-/
module

public import proofs.«01_k».proof.Proof.Gen.KernelIdeal.Frame
public import proofs.«01_k».proof.Proof.KerPay
public import Idealize.ShloMosaic.Lib.Pipeline.ValueKit

@[expose] public section

set_option maxRecDepth 16384

noncomputable section

namespace Cert.Proof.KerArr

open Cert.KernelIdeal Cert.KernelIdeal.Gen Cert.Proof.Rows Cert.Proof.KerPay
open Idealize.ShloMosaic Idealize.ShloMosaic.TcCoe Idealize.SL.Sem
open Idealize.ShloMosaic.Pipeline (Dat)

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-! ## The flattened arguments -/

theorem V_main_v0 (c : Dev nD) : (V m c main_v0 : FVec Ideal S8192x256 .f32)
    = shapeCast S8192x256 (m ((c : Thread nD τ).loc main_arg0) : FVec Ideal S8x1024x256 .f32) shapeCasts_S8x1024x256_S8192x256 := by
  unfold V V0 hostOps0
  after_results
  try rfl

theorem V_main_v1 (c : Dev nD) : (V m c main_v1 : FVec Ideal S1x1024 .f32)
    = shapeCast S1x1024 (m ((c : Thread nD τ).loc main_arg3) : FVec Ideal S1024 .f32) shapeCasts_S1024_S1x1024 := by
  unfold V V0 hostOps0
  after_results
  try rfl

theorem V_main_v3 (c : Dev nD) : (V m c main_v3 : IVec S8192x1 32)
    = extui 32 (shapeCast S8192x1 (m ((c : Thread nD τ).loc main_arg1) : IVec S8x1024 1) shapeCasts_S8x1024_S8192x1) natLt_1_32 := by
  unfold V V0 hostOps0
  after_results
  try rfl

theorem flat_at (X : FVec Ideal S8x1024x256 .f32) (i : S8192x256.Idx) :
    shapeCast S8192x256 X shapeCasts_S8x1024x256_S8192x256 i
      = X (ix3 ⟨(i 0).val / 1024, by have := (i 0).isLt; change _ < 8192 at this; omega⟩ ⟨(i 0).val % 1024, by omega⟩ (i 1)) := by
  pointwise

/-! ## The input blocks -/

theorem rows_lt (t : Fin cfg0.N) : t.val < 4 := lt_of_lt_of_eq t.isLt N_0

theorem x_at (c : Dev nD) (t : Fin cfg0.N) (r : Fin 2048) (k : Fin 256) :
    (iblk m c 0 t : FVec Ideal S2048x256 .f32) (ix2 r k)
      = m ((c : Thread nD τ).loc main_arg0) (ix3 ⟨t.val * 2 + r.val / 1024, by have := rows_lt t; omega⟩ ⟨r.val % 1024, by omega⟩ k) := by
  have := rows_lt t
  blk_point [iblk, V, idx t]
  rw [V_main_v0, flat_at]
  blk_ext [idx t]

theorem w_at (c : Dev nD) (t : Fin cfg0.N) (j : Fin 1024) (k : Fin 128) :
    (iblk m c 1 t : FVec Ideal S1024x128 .f32) (ix2 j k) = m ((c : Thread nD τ).loc main_arg2) (ix2 j k) := by
  have := rows_lt t
  blk_point [iblk, V, idx t]

theorem b_at (c : Dev nD) (t : Fin cfg0.N) (j : Fin 1024) :
    (iblk m c 2 t : FVec Ideal S1x1024 .f32) (ix2 0 j) = m ((c : Thread nD τ).loc main_arg3) (ix1 j) := by
  have := rows_lt t
  blk_point [iblk, V, idx t]
  rw [V_main_v1]
  pointwise
  blk_ext [idx t]

theorem cv_at (c : Dev nD) (t : Fin cfg0.N) (j : Fin 1024) (k : Fin 128) :
    (iblk m c 3 t : FVec Ideal S1024x128 .f32) (ix2 j k) = m ((c : Thread nD τ).loc main_arg4) (ix2 j k) := by
  have := rows_lt t
  blk_point [iblk, V, idx t]

theorem mask_at (c : Dev nD) (t : Fin cfg0.N) (r : Fin 2048) :
    (iblk m c 4 t : IVec S2048x1 32) (ix2 r 0)
      = (m ((c : Thread nD τ).loc main_arg1) (ix2 ⟨t.val * 2 + r.val / 1024, by have := rows_lt t; omega⟩ ⟨r.val % 1024, by omega⟩) : BitVec 1).setWidth 32 := by
  have := rows_lt t
  blk_point [iblk, V, idx t]
  rw [V_main_v3]
  pointwise
  refine congrArg (BitVec.setWidth 32) ?_
  blk_ext [idx t]

/-! ## The result arrays -/

/-- A row of logits of the first half of the columns, -/
def row0 (X : FVec Ideal S8x1024x256 .f32) (W : FVec Ideal S1024x128 .f32) (B : FVec Ideal S1024 .f32) (p : Fin 8) (r : Fin 1024) :
    Fin 1024 → EReal :=
  fun j => ∑ k : Fin 128, X (ix3 p r ⟨k.val, by omega⟩) * W (ix2 j k) + B (ix1 j)

/-- and of the second. -/
def row1 (X : FVec Ideal S8x1024x256 .f32) (W : FVec Ideal S1024x128 .f32) (B : FVec Ideal S1024 .f32) (p : Fin 8) (r : Fin 1024) :
    Fin 1024 → EReal :=
  fun j => ∑ k : Fin 128, X (ix3 p r ⟨128 + k.val, by omega⟩) * W (ix2 j k) + B (ix1 j)

/-- The code vectors: a row and a column of the first result, -/
def vecOf (X : FVec Ideal S8x1024x256 .f32) (M : IVec S8x1024 1) (W : FVec Ideal S1024x128 .f32) (B : FVec Ideal S1024 .f32)
    (T : FVec Ideal S1024x128 .f32) (p : Fin 8) (r : Fin 1024) (d : Fin 256) : EReal :=
  Scalar.select (M (ix2 p r))
    (if h : (d : ℕ) < 128 then mix (row0 X W B p r) fun j => T (ix2 j ⟨d, h⟩)
      else mix (row1 X W B p r) fun j => T (ix2 j ⟨d - 128, by omega⟩)) 0

/-- and the code words: a row and a column of the second. -/
def wordOf (X : FVec Ideal S8x1024x256 .f32) (M : IVec S8x1024 1) (W : FVec Ideal S1024x128 .f32) (B : FVec Ideal S1024 .f32)
    (p : Fin 8) (r : Fin 1024) (e : Fin 2) : BitVec 32 :=
  Scalar.select (M (ix2 p r)) (if (e : ℕ) < 1 then pick (row0 X W B p r) else pick (row1 X W B p r)) 0#32

/-- The first result's array, flattened, -/
def vecArr (X : FVec Ideal S8x1024x256 .f32) (M : IVec S8x1024 1) (W : FVec Ideal S1024x128 .f32) (B : FVec Ideal S1024 .f32)
    (T : FVec Ideal S1024x128 .f32) : FVec Ideal S8192x256 .f32 :=
  fun i => vecOf X M W B T ⟨(i 0).val / 1024, by have := (i 0).isLt; change _ < 8192 at this; omega⟩ ⟨(i 0).val % 1024, by omega⟩ (i 1)

/-- and the second's. -/
def wordArr (X : FVec Ideal S8x1024x256 .f32) (M : IVec S8x1024 1) (W : FVec Ideal S1024x128 .f32) (B : FVec Ideal S1024 .f32) :
    IVec S8192x2 32 :=
  fun i => wordOf X M W B ⟨(i 0).val / 1024, by have := (i 0).isLt; change _ < 8192 at this; omega⟩ ⟨(i 0).val % 1024, by omega⟩ (i 1)

/-- The mask's test undoes its widening. -/
theorem mask_test (b : BitVec 1) : IntOp.cmpi .ne (b.setWidth 32) 0#32 = b := by
  revert b
  decide

theorem rowLogits_eq (b : Vec Ideal S1x1024 .f32) (w : Vec Ideal S1024x128 .f32) (x : Vec Ideal S2048x128 .f32) (r : Fin 2048)
    (f : Fin 128 → EReal) (W : FVec Ideal S1024x128 .f32) (B : FVec Ideal S1024 .f32)
    (hx : ∀ k, x (ix2 r k) = f k) (hw : ∀ j k, w (ix2 j k) = W (ix2 j k)) (hb : ∀ j, b (ix2 0 j) = B (ix1 j)) :
    rowLogits b w x r = fun j => ∑ k : Fin 128, f k * W (ix2 j k) + B (ix1 j) := by
  unfold rowLogits
  simp only [hx, hw, hb]

section At

variable (X : FVec Ideal S8x1024x256 .f32) (M : IVec S8x1024 1) (W : FVec Ideal S1024x128 .f32) (B : FVec Ideal S1024 .f32)
  (T : FVec Ideal S1024x128 .f32)

theorem vecArr_at (i : S8192x256.Idx) (p : Fin 8) (r : Fin 1024) (d : Fin 256) (h0 : (i 0 : ℕ) = p.val * 1024 + r.val)
    (h1 : (i 1 : ℕ) = d.val) : vecArr X M W B T i = vecOf X M W B T p r d := by
  unfold vecArr
  congr 1
  · exact Fin.ext (show (i 0).val / 1024 = p.val by omega)
  · exact Fin.ext (show (i 0).val % 1024 = r.val by omega)
  · exact Fin.ext h1

theorem wordArr_at (i : S8192x2.Idx) (p : Fin 8) (r : Fin 1024) (e : Fin 2) (h0 : (i 0 : ℕ) = p.val * 1024 + r.val)
    (h1 : (i 1 : ℕ) = e.val) : wordArr X M W B i = wordOf X M W B p r e := by
  unfold wordArr
  congr 1
  · exact Fin.ext (show (i 0).val / 1024 = p.val by omega)
  · exact Fin.ext (show (i 0).val % 1024 = r.val by omega)
  · exact Fin.ext h1

theorem vecOf0 (p : Fin 8) (r : Fin 1024) (d : Fin 128) :
    vecOf X M W B T p r ⟨d.val, by omega⟩ = Scalar.select (M (ix2 p r)) (mix (row0 X W B p r) fun j => T (ix2 j d)) 0 := by
  unfold vecOf
  rw [dif_pos d.isLt]

theorem vecOf1 (p : Fin 8) (r : Fin 1024) (d : Fin 128) :
    vecOf X M W B T p r ⟨128 + d.val, by omega⟩ = Scalar.select (M (ix2 p r)) (mix (row1 X W B p r) fun j => T (ix2 j d)) 0 := by
  unfold vecOf
  rw [dif_neg (show ¬(128 + d.val < 128) by omega)]
  have e : (⟨128 + d.val - 128, by omega⟩ : Fin 128) = d := Fin.ext (by show 128 + d.val - 128 = d.val; omega)
  simp only [e]

end At

/-! ## A grid point's stores -/

/-- The batch and the row of block row `r` at point `t`. -/
def batch (t : Fin cfg0.N) (r : Fin 2048) : Fin 8 := ⟨t.val * 2 + r.val / 1024, by have := rows_lt t; omega⟩
def line (r : Fin 2048) : Fin 1024 := ⟨r.val % 1024, by omega⟩

theorem ld_left (X : Vec Ideal S2048x256 .f32) (r : Fin 2048) (k : Fin 128) :
    View.ld X r0_3 (ix2 r k) = X (ix2 r ⟨k.val, by omega⟩) :=
  View.ld_unit_apply_of X _ _ _ _ _ fun a => match a with
    | ⟨0, _⟩ => (Nat.zero_add _).symm
    | ⟨1, _⟩ => (Nat.zero_add _).symm

theorem ld_right (X : Vec Ideal S2048x256 .f32) (r : Fin 2048) (k : Fin 128) :
    View.ld X r0_4 (ix2 r k) = X (ix2 r ⟨128 + k.val, by omega⟩) :=
  View.ld_unit_apply_of X _ _ _ _ _ fun a => match a with
    | ⟨0, _⟩ => (Nat.zero_add _).symm
    | ⟨1, _⟩ => rfl

theorem ld_bias (X : Vec Ideal S1x1024 .f32) : View.ld X r0_0 = X :=
  View.ld_unit_lit _ X fun a => match a with
    | ⟨0, _⟩ => rfl
    | ⟨1, _⟩ => rfl

theorem ld_table (X : Vec Ideal S1024x128 .f32) : View.ld X r0_1 = X :=
  View.ld_unit_lit _ X fun a => match a with
    | ⟨0, _⟩ => rfl
    | ⟨1, _⟩ => rfl

theorem ld_mask (X : Vec Ideal S2048x1 .i32) : View.ld X r0_2 = X :=
  View.ld_unit_lit _ X fun a => match a with
    | ⟨0, _⟩ => rfl
    | ⟨1, _⟩ => rfl

theorem logits0_at (c : Dev nD) (t : Fin cfg0.N) (r : Fin 2048) :
    rowLogits (View.ld (iblk m c 2 t) r0_0) (View.ld (iblk m c 1 t) r0_1) (View.ld (iblk m c 0 t) r0_3) r
      = row0 (m ((c : Thread nD τ).loc main_arg0)) (m ((c : Thread nD τ).loc main_arg2)) (m ((c : Thread nD τ).loc main_arg3))
          (batch t r) (line r) := by
  refine rowLogits_eq _ _ _ r _ _ _ (fun k => ?_) (fun j k => ?_) fun j => ?_
  · exact (ld_left _ r k).trans (x_at m c t r _)
  · exact (congrFun (ld_table _) _).trans (w_at m c t j k)
  · exact (congrFun (ld_bias _) _).trans (b_at m c t j)

theorem logits1_at (c : Dev nD) (t : Fin cfg0.N) (r : Fin 2048) :
    rowLogits (View.ld (iblk m c 2 t) r0_0) (View.ld (iblk m c 1 t) r0_1) (View.ld (iblk m c 0 t) r0_4) r
      = row1 (m ((c : Thread nD τ).loc main_arg0)) (m ((c : Thread nD τ).loc main_arg2)) (m ((c : Thread nD τ).loc main_arg3))
          (batch t r) (line r) := by
  refine rowLogits_eq _ _ _ r _ _ _ (fun k => ?_) (fun j k => ?_) fun j => ?_
  · exact (ld_right _ r k).trans (x_at m c t r _)
  · exact (congrFun (ld_table _) _).trans (w_at m c t j k)
  · exact (congrFun (ld_bias _) _).trans (b_at m c t j)

theorem test_of (k : Vec Ideal S2048x1 .i32) (r : Fin 2048) (b : BitVec 1) (h : k (ix2 r 0) = b.setWidth 32) :
    IntOp.cmpi .ne (k (ix2 r 0)) 0#32 = b := by
  rw [h]
  exact mask_test b

theorem test_at (c : Dev nD) (t : Fin cfg0.N) (r : Fin 2048) :
    IntOp.cmpi .ne ((View.ld (iblk m c 4 t) r0_2 : Vec Ideal S2048x1 .i32) (ix2 r 0)) 0#32
      = m ((c : Thread nD τ).loc main_arg1) (ix2 (batch t r) (line r)) :=
  test_of _ r _ ((congrFun (ld_mask _) _).trans (mask_at m c t r))

theorem table_at (c : Dev nD) (t : Fin cfg0.N) (j : Fin 1024) (d : Fin 128) :
    (View.ld (iblk m c 3 t) r0_1 : Vec Ideal S1024x128 .f32) (ix2 j d) = m ((c : Thread nD τ).loc main_arg4) (ix2 j d) := by
  exact (congrFun (ld_table _) _).trans (cv_at m c t j d)

/-- The selected quotient depends on the test, the logits and the table's column only. -/
theorem vec_congr {q q' : BitVec 1} {l l' v v' : Fin 1024 → EReal} (hq : q = q') (hl : l = l') (hv : ∀ j, v j = v' j) :
    Scalar.select q (mix l v) (0 : EReal) = Scalar.select q' (mix l' v') 0 := by
  rw [hq, hl, funext hv]

/-- The selected code word depends on the test and the two rows of logits only. -/
theorem word_congr {q q' : BitVec 1} {l0 l0' l1 l1' : Fin 1024 → EReal} (e : Fin 2) (hq : q = q') (h0 : l0 = l0') (h1 : l1 = l1') :
    Scalar.select q (if (e : ℕ) < 1 then pick l0 else pick l1) 0#32
      = Scalar.select q' (if (e : ℕ) < 1 then pick l0' else pick l1') 0#32 := by
  rw [hq, h0, h1]

theorem row_split (t : Fin cfg0.N) (r : Fin 2048) : t.val * 2048 + r.val = (batch t r).val * 1024 + (line r).val := by
  show t.val * 2048 + r.val = (t.val * 2 + r.val / 1024) * 1024 + r.val % 1024
  omega

theorem point5 (c : Dev nD) (t : Fin cfg0.N) (y : S2048x256.Idx) :
    out0_5 (F := Ideal) (iblk m c 0 t) (iblk m c 1 t) (iblk m c 2 t) (iblk m c 3 t) (iblk m c 4 t) y
      = vecArr (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  have := rows_lt t
  have e0 : ((((cfg0.win 5).blk t).view.emb y 0 : Fin _) : ℕ) = t.val * 2048 + (y 0 : ℕ) := by
    blk_simp [idx t]
  have e1 : ((((cfg0.win 5).blk t).view.emb y 1 : Fin _) : ℕ) = (y 1 : ℕ) := by
    blk_simp [idx t]
  generalize ((cfg0.win 5).blk t).view.emb y = i at e0 e1 ⊢
  unfold_out out0_5
  canon_tiles x h
  case piece0 =>
    obtain ⟨r, d, rfl⟩ : ∃ r d, x = ix2 r d := ⟨x 0, x 1, eq_ix2 x⟩
    refine (vecs1_at _ _ _ _ _ r d).trans ((vec_congr (test_at m c t r) (logits1_at m c t r) fun j => table_at m c t j d).trans
      ((vecOf1 _ _ _ _ _ _ _ d).symm.trans (vecArr_at _ _ _ _ _ i (batch t r) (line r) _ ?_ ?_).symm))
    · exact e0.trans ((congrArg (t.val * 2048 + ·) h0).trans (row_split t r))
    · exact e1.trans h1
  case piece1 =>
    obtain ⟨r, d, rfl⟩ : ∃ r d, x = ix2 r d := ⟨x 0, x 1, eq_ix2 x⟩
    refine (vecs0_at _ _ _ _ _ r d).trans ((vec_congr (test_at m c t r) (logits0_at m c t r) fun j => table_at m c t j d).trans
      ((vecOf0 _ _ _ _ _ _ _ d).symm.trans (vecArr_at _ _ _ _ _ i (batch t r) (line r) _ ?_ ?_).symm))
    · exact e0.trans ((congrArg (t.val * 2048 + ·) h0).trans (row_split t r))
    · exact e1.trans h1

theorem point6 (c : Dev nD) (t : Fin cfg0.N) (y : S2048x2.Idx) :
    out0_6 (F := Ideal) (iblk m c 0 t) (iblk m c 1 t) (iblk m c 2 t) (iblk m c 3 t) (iblk m c 4 t) y
      = wordArr (m ((c : Thread nD τ).loc main_arg0)) (m ((c : Thread nD τ).loc main_arg1)) (m ((c : Thread nD τ).loc main_arg2))
          (m ((c : Thread nD τ).loc main_arg3)) (((cfg0.win 6).blk t).view.emb y) := by
  have := rows_lt t
  have e0 : ((((cfg0.win 6).blk t).view.emb y 0 : Fin _) : ℕ) = t.val * 2048 + (y 0 : ℕ) := by
    blk_simp [idx t]
  have e1 : ((((cfg0.win 6).blk t).view.emb y 1 : Fin _) : ℕ) = (y 1 : ℕ) := by
    blk_simp [idx t]
  generalize ((cfg0.win 6).blk t).view.emb y = i at e0 e1 ⊢
  unfold_out out0_6
  canon_tiles x h
  obtain ⟨r, e, rfl⟩ : ∃ r e, x = ix2 r e := ⟨x 0, x 1, eq_ix2 x⟩
  refine (words_at _ _ _ _ _ r e).trans ((word_congr e (test_at m c t r) (logits0_at m c t r) (logits1_at m c t r)).trans
    (wordArr_at _ _ _ _ i (batch t r) (line r) e ?_ ?_).symm)
  · exact e0.trans ((congrArg (t.val * 2048 + ·) h0).trans (row_split t r))
  · exact e1.trans h1

/-! ## The arrays after the region -/

theorem final5 (c : Dev nD) : (dats m 0 c).arrAt 5 (cfgs 0).N
    = vecArr (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  exact point5 m c t y

theorem final6 (c : Dev nD) : (dats m 0 c).arrAt 6 (cfgs 0).N
    = wordArr (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]
  exact point6 m c t y

end Cert.Proof.KerArr

end
-- ==== Proof.KerRun.lean ====
/-
  THE KERNEL'S RUN (hand-written): what @main leaves in its two results, at an index, and its arguments unchanged.
-/
module

public import proofs.«01_k».proof.Proof.KerArr

@[expose] public section

set_option maxRecDepth 16384

noncomputable section

namespace Cert.Proof.KerRun

open Cert.KernelIdeal Cert.KernelIdeal.Gen Cert.Proof.KerArr
open Idealize.ShloMosaic Idealize.ShloMosaic.TcCoe Idealize.SL.Sem
open Idealize.ShloMosaic.Pipeline (Dat)

variable (m : (ℓ : Loc nD τ sig) → Buf (Elt Ideal) ℓ)

/-- The first result is the first array cut back into batches, -/
theorem tail_v5 (c : Dev nD) : (Pipeline.afterTail₀ cfgs (dats m) 0 (V0 m) [hostOps1] c main_v5 : FVec Ideal S8x1024x256 .f32)
    = shapeCast S8x1024x256 ((dats m 0 c).arrAt 5 (cfgs 0).N : FVec Ideal S8192x256 .f32) shapeCasts_S8192x256_S8x1024x256 := by
  unfold Pipeline.afterTail₀ hostOps1
  after_results
  rw [← Pipeline.withArrays_arr (cfgs 0).spec launch0.win.arr_inj c (V0 m c) (fun w => (dats m 0 c).arrAt w (cfgs 0).N) 5]
  rfl

/-- and the second the second. -/
theorem tail_v6 (c : Dev nD) : (Pipeline.afterTail₀ cfgs (dats m) 0 (V0 m) [hostOps1] c main_v6 : IVec S8x1024x2 32)
    = shapeCast S8x1024x2 ((dats m 0 c).arrAt 6 (cfgs 0).N : IVec S8192x2 32) shapeCasts_S8192x2_S8x1024x2 := by
  unfold Pipeline.afterTail₀ hostOps1
  after_results
  rw [← Pipeline.withArrays_arr (cfgs 0).spec launch0.win.arr_inj c (V0 m c) (fun w => (dats m 0 c).arrAt w (cfgs 0).N) 6]
  rfl

/-! ## The results at an index -/

theorem unflat_vec (Y : FVec Ideal S8192x256 .f32) (p : Fin 8) (r : Fin 1024) (d : Fin 256) :
    shapeCast S8x1024x256 Y shapeCasts_S8192x256_S8x1024x256 (ix3 p r d) = Y (ix2 ⟨p.val * 1024 + r.val, by omega⟩ d) := by
  pointwise

theorem unflat_word (Y : IVec S8192x2 32) (p : Fin 8) (r : Fin 1024) (e : Fin 2) :
    shapeCast S8x1024x2 Y shapeCasts_S8192x2_S8x1024x2 (ix3 p r e) = Y (ix2 ⟨p.val * 1024 + r.val, by omega⟩ e) := by
  pointwise

/-- The code vectors, batch by batch, -/
def vecRes (X : FVec Ideal S8x1024x256 .f32) (M : IVec S8x1024 1) (W : FVec Ideal S1024x128 .f32) (B : FVec Ideal S1024 .f32)
    (T : FVec Ideal S1024x128 .f32) : FVec Ideal S8x1024x256 .f32 := fun i => vecOf X M W B T (i 0) (i 1) (i 2)

/-- and the code words. -/
def wordRes (X : FVec Ideal S8x1024x256 .f32) (M : IVec S8x1024 1) (W : FVec Ideal S1024x128 .f32) (B : FVec Ideal S1024 .f32) :
    IVec S8x1024x2 32 := fun i => wordOf X M W B (i 0) (i 1) (i 2)

theorem unflat_vecArr (X : FVec Ideal S8x1024x256 .f32) (M : IVec S8x1024 1) (W : FVec Ideal S1024x128 .f32)
    (B : FVec Ideal S1024 .f32) (T : FVec Ideal S1024x128 .f32) :
    shapeCast S8x1024x256 (vecArr X M W B T) shapeCasts_S8192x256_S8x1024x256 = vecRes X M W B T := by
  funext i
  obtain ⟨p, r, d, rfl⟩ : ∃ p r d, i = ix3 p r d := ⟨i 0, i 1, i 2, eq_ix3 i⟩
  exact (unflat_vec _ p r d).trans (vecArr_at X M W B T _ p r d rfl rfl)

theorem unflat_wordArr (X : FVec Ideal S8x1024x256 .f32) (M : IVec S8x1024 1) (W : FVec Ideal S1024x128 .f32)
    (B : FVec Ideal S1024 .f32) :
    shapeCast S8x1024x2 (wordArr X M W B) shapeCasts_S8192x2_S8x1024x2 = wordRes X M W B := by
  funext i
  obtain ⟨p, r, e, rfl⟩ : ∃ p r e, i = ix3 p r e := ⟨i 0, i 1, i 2, eq_ix3 i⟩
  exact (unflat_word _ p r e).trans (wordArr_at X M W B _ p r e rfl rfl)

/-- The kernel's run: both results as functions of the launch arguments, which stay as they were. -/
theorem run (ρ : Dev nD → PrngReg) :
    θ_run defs (onTc (τ := τ) (main (F := Ideal))) ⟨m, fun _ => 0, ρ⟩ fun r => ∀ c : Dev nD,
      r.2.mem ((c.tc : Thread nD τ).loc main_v5)
        = vecRes (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_v6)
        = wordRes (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans ((tail_v5 m c).trans
        ((congrArg (fun Y => shapeCast S8x1024x256 Y shapeCasts_S8192x256_S8x1024x256) (final5 m c)).trans (unflat_vecArr _ _ _ _ _))),
      ((h c).2 main_v6 (Pipeline.mem_restRefs_of main_v6 (by decide) (by decide))).trans ((tail_v6 m c).trans
        ((congrArg (fun Y => shapeCast S8x1024x2 Y shapeCasts_S8192x2_S8x1024x2) (final6 m c)).trans (unflat_wordArr _ _ _ _))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c)))⟩) (Gen.run_main m ρ)

end Cert.Proof.KerRun

end
-- ==== Proof.RefVal.lean ====
/-
  THE REFERENCE AT AN INDEX (hand-written): its stages read at a row and a column, in the words of `Rows.lean` — the code
  word of a row is the position the kernel picks, and the code vector of a row of real logits is the kernel's quotient.
-/
module

public import proofs.«01_k».proof.Proof.RefRun
public import proofs.«01_k».proof.Proof.Rows

@[expose] public section

set_option maxRecDepth 16384

noncomputable section

namespace Cert.Proof.RefVal

open Cert.ReferenceIdeal Cert.ReferenceIdeal.Gen Cert.Proof.RefRun Cert.Proof.Rows
open Idealize.ShloMosaic Idealize.ShloMosaic.TcCoe Idealize.SL.Sem

/-! ## The arg-max -/

/-- The reducer keeps one of its two pairs, and the one it keeps beats both. -/
theorem reducer_beats (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, i⟩ := a
  obtain ⟨y, j⟩ := b
  have h : reducer_argmax_f32_i32 (F := Ideal) (x, i) (y, j)
      = if y < x ∨ (x = y ∧ i.toInt < j.toInt) then (x, i) else (y, j) := by
    unfold reducer_argmax_f32_i32
    rcases lt_trichotomy x y with h | h | h
    · simp [Ideal.cmpf_def, Ideal.cmp, IntOp.ori, IntOp.andi, IntOp.cmpi, Scalar.select, h, h.ne, h.le, not_lt.mpr h.le]
    · subst h
      by_cases k : i.toInt < j.toInt
      · simp [Ideal.cmpf_def, Ideal.cmp, IntOp.ori, IntOp.andi, IntOp.cmpi, Scalar.select, k, BitVec.slt_eq_decide]
      · simp [Ideal.cmpf_def, Ideal.cmp, IntOp.ori, IntOp.andi, IntOp.cmpi, Scalar.select, k, BitVec.slt_eq_decide]
    · simp [Ideal.cmpf_def, Ideal.cmp, IntOp.ori, IntOp.andi, IntOp.cmpi, Scalar.select, h, h.ne', h.le]
  rw [h]
  split
  · rename_i k
    refine ⟨.inl rfl, .refl _, ?_⟩
    rcases k with k | ⟨k, k'⟩
    · exact .inl k
    · exact .inr ⟨k.symm, k'.le⟩
  · rename_i k
    refine ⟨.inr rfl, ?_, .refl _⟩
    rcases lt_trichotomy x y with k' | k' | k'
    · exact .inl k'
    · exact .inr ⟨k', not_lt.mp fun q => k (.inr ⟨k', q⟩)⟩
    · exact absurd (.inl k') k

/-- The pairs a reduction folds over at an index: those of the source's indices that drop to it. -/
theorem mem_fiber {s t : Shape} {axes : List (Fin s.rank)} {α β : Type} (x : s.Idx → α) (y : s.Idx → β) (h : s.ReducesTo axes t)
    (j : t.Idx) (q : α × β) : q ∈ Host.argReduceFiber x y h j ↔ ∃ i : s.Idx, h.drop i = j ∧ q = (x i, y i) := by
  unfold Host.argReduceFiber
  rw [List.mem_map]
  constructor
  · rintro ⟨n, hn, rfl⟩
    exact ⟨s.rowMajor.symm n, of_decide_eq_true (List.mem_filter.mp hn).2, rfl⟩
  · rintro ⟨i, hi, rfl⟩
    refine ⟨s.rowMajor i, List.mem_filter.mpr ⟨List.mem_finRange _, decide_eq_true ?_⟩, ?_⟩
    · rw [Equiv.symm_apply_apply, hi]
    · rw [Equiv.symm_apply_apply]

/-- The indices of a row: those whose first two coordinates are the row's. -/
theorem drop_eq_iff (i : S8x1024x1024.Idx) (p : Fin 8) (r : Fin 1024) :
    reducesTo_S8x1024x1024_S8x1024_d2.drop i = ix2 p r ↔ i = ix3 p r (i 2) := by
  have h0 := Shape.ReducesTo.drop_apply_val_of_eq reducesTo_S8x1024x1024_S8x1024_d2 i 0 0
  have h1 := Shape.ReducesTo.drop_apply_val_of_eq reducesTo_S8x1024x1024_S8x1024_d2 i 1 1
  generalize reducesTo_S8x1024x1024_S8x1024_d2.drop i = j at h0 h1 ⊢
  constructor
  · rintro rfl
    funext b
    match b with
    | ⟨0, _⟩ => exact Fin.ext h0.symm
    | ⟨1, _⟩ => exact Fin.ext h1.symm
    | ⟨2, _⟩ => rfl
  · intro h
    rw [h] at h0 h1
    funext b
    match b with
    | ⟨0, _⟩ => exact Fin.ext h0
    | ⟨1, _⟩ => exact Fin.ext h1

/-- An arg-max reduction from negative infinity at position zero, over the pairs of a row, ends at the least position at the
    row's maximum. -/
theorem argReduce_eq_pick {s t u : Shape} {axes : List (Fin s.rank)}
    (f : EReal × BitVec 32 → EReal × BitVec 32 → EReal × BitVec 32)
    (hf : ∀ a b, (f a b = a ∨ f a b = b) ∧ Beats (f a b) a ∧ Beats (f a b) b)
    (x : FVec Ideal s .f32) (y : s.Idx → BitVec 32) (a : FVec Ideal u .f32) (b : u.Idx → BitVec 32) (h : s.ReducesTo axes t)
    (hu : 0 < u.numel) (j : t.Idx) (l : Fin 1024 → EReal) (w : t.Idx → BitVec 32)
    (hw : w = fun j => (Host.argReduce (φ := .f32) f x y a b h hu j).2) (ha : ∀ i, a i = (⊥ : EReal)) (hb : ∀ i, b i = 0#32)
    (hL : ∀ q : EReal × BitVec 32, (∃ i : s.Idx, h.drop i = j ∧ q = (x i, y i)) ↔ ∃ k : Fin 1024, q = (l k, BitVec.ofNat 32 (k : ℕ))) :
    w j = pick l := by
  rw [hw]
  show (Host.argReduce (φ := .f32) f x y a b h hu j).2 = pick l
  rw [Ideal.argReduce_eq_reduce2, Host.reduce2_eq_foldl_fiber, ha, hb]
  exact foldl_eq_pick f hf l _ fun q => (mem_fiber x y h j q).trans (hL q)

/-- The pairs of a row. -/
theorem row_pairs (l : FVec Ideal S8x1024x1024 .f32) (p : Fin 8) (r : Fin 1024) (q : EReal × BitVec 32) :
    (∃ i : S8x1024x1024.Idx, reducesTo_S8x1024x1024_S8x1024_d2.drop i = ix2 p r ∧ q = (l i, iotaInDim S8x1024x1024 32 2 i))
      ↔ ∃ k : Fin 1024, q = (l (ix3 p r k), BitVec.ofNat 32 (k : ℕ)) := by
  constructor
  · rintro ⟨i, hi, rfl⟩
    exact ⟨i 2, Prod.ext (congrArg l ((drop_eq_iff i p r).mp hi)) rfl⟩
  · rintro ⟨k, rfl⟩
    exact ⟨ix3 p r k, (drop_eq_iff _ p r).mpr rfl, rfl⟩

theorem negInf : Ideal.ofBits .f32 0xFF800000#32 = (⊥ : EReal) := by simp [Ideal.ofBits, Ideal.ieee]

/-- The code words are an arg-max reduction. -/
theorem words_eq (l : FVec Ideal S8x1024x1024 .f32) :
    words l = fun j => (Host.argReduce (F := Ideal) (φ := .f32) reducer_argmax_f32_i32 l (iotaInDim S8x1024x1024 32 2)
      (constant S_ .f32 0xFF800000#32) (constantI S_ 32 0#32) reducesTo_S8x1024x1024_S8x1024_d2 h_S_ j).2 := by
  delta words argPos
  with_reducible rfl

/-- The code word of a row is the least position at its maximum. -/
theorem words_at (l : FVec Ideal S8x1024x1024 .f32) (p : Fin 8) (r : Fin 1024) :
    words l (ix2 p r) = pick fun k => l (ix3 p r k) :=
  argReduce_eq_pick _ reducer_beats l (iotaInDim S8x1024x1024 32 2) (constant S_ .f32 0xFF800000#32) (constantI S_ 32 0#32)
    reducesTo_S8x1024x1024_S8x1024_d2 h_S_ _ _ _ (words_eq l) (fun _ => negInf) (fun _ => rfl) (row_pairs l p r)

/-! ## The code vectors -/

theorem maximumf_at {s : Shape} (a b : FVec Ideal s .f32) (i : s.Idx) : maximumf a b i = max (a i) (b i) := rfl

/-- The maximum of two arrays, the second a reduction by maximum, at an index. -/
theorem maxReduce_at {s t u : Shape} {axes : List (Fin s.rank)} (x : FVec Ideal s .f32) (a : FVec Ideal u .f32) (b : FVec Ideal t .f32)
    (h : s.ReducesTo axes t) (hu : 0 < u.numel) (j : t.Idx) (w : FVec Ideal t .f32)
    (hw : w = maximumf b (Host.reduce FloatOps.maximumf x a h hu)) (ha : ∀ i, a i = (⊥ : EReal)) (hb : ∀ i, b i = (⊥ : EReal)) :
    w j = (Finset.univ.filter fun i => h.drop i = j).fold max (⊥ : EReal) x := by
  rw [hw, maximumf_at, hb, max_eq_right bot_le]
  have e := Host.reduce_eq_fold (max : EReal → EReal → EReal) x a h hu j
  rw [ha] at e
  exact e

/-- A row's maximum. -/
theorem rowMax_at (l : FVec Ideal S8x1024x1024 .f32) (p : Fin 8) (r : Fin 1024) :
    rowMax l (ix2 p r) = top fun k => l (ix3 p r k) :=
  (maxReduce_at l (constant S_ .f32 0xFF800000#32) (broadcastInDim S8x1024 ![] bcast_S_S8x1024 (constant S_ .f32 0xFF800000#32))
    reducesTo_S8x1024x1024_S8x1024_d2 h_S_ (ix2 p r) (rowMax l) rfl (fun _ => negInf) (fun _ => negInf)).trans
    (Shape.ReducesTo.fold_fiber_r3_a2 reducesTo_S8x1024x1024_S8x1024_d2 (ix2 p r) max ⊥ l)

theorem exps_at (l : FVec Ideal S8x1024x1024 .f32) (p : Fin 8) (r : Fin 1024) (j : Fin 1024) :
    exps l (ix3 p r j) = Ideal.exp (l (ix3 p r j) - rowMax l (ix2 p r)) := by
  pointwise [exps, spread]

/-- The code vector of a row: every weight divided by the sum of the weights. -/
theorem vecs_row (l : FVec Ideal S8x1024x1024 .f32) (T : FVec Ideal S1024x128 .f32) (p : Fin 8) (r : Fin 1024) (d : Fin 128) :
    vecs l T (ix3 p r d) = ∑ j, Ideal.div (exps l (ix3 p r j)) (∑ i, exps l (ix3 p r i)) * T (ix2 j d) := by
  pointwise [vecs, spread]

/-- The code vector of a row of real logits: the weighted sum of the table's column over the sum of the weights. -/
theorem vecs_at (l : FVec Ideal S8x1024x1024 .f32) (T : FVec Ideal S1024x128 .f32) (p : Fin 8) (r : Fin 1024) (d : Fin 128)
    (hl : ∀ k, ∃ x : ℝ, l (ix3 p r k) = (x : EReal)) :
    vecs l T (ix3 p r d) = mix (fun k => l (ix3 p r k)) fun k => T (ix2 k d) := by
  rw [vecs_row, ← sum_div_eq_mix _ _ hl]
  simp only [exps_at, rowMax_at, max_eq_right bot_le]

/-! ## The logits -/

theorem logits0_at (x : FVec Ideal S8x1024x256 .f32) (W : FVec Ideal S1024x128 .f32) (b : FVec Ideal S1024 .f32)
    (p : Fin 8) (r : Fin 1024) (j : Fin 1024) :
    logits (half0 x) W b (ix3 p r j)
      = ∑ k : Fin 128, x (ix3 p r ⟨k.val, by omega⟩) * W (ix2 j k) + b (ix1 j) := by
  pointwise [logits, half0]

theorem logits1_at (x : FVec Ideal S8x1024x256 .f32) (W : FVec Ideal S1024x128 .f32) (b : FVec Ideal S1024 .f32)
    (p : Fin 8) (r : Fin 1024) (j : Fin 1024) :
    logits (half1 x) W b (ix3 p r j)
      = ∑ k : Fin 128, x (ix3 p r ⟨128 + k.val, by omega⟩) * W (ix2 j k) + b (ix1 j) := by
  pointwise [logits, half1]

/-! ## The results -/

theorem maskVecs_at (M : IVec S8x1024 1) (p : Fin 8) (r : Fin 1024) (j : Fin 256) :
    broadcastInDim S8x1024x256 ![0, 1, 2] bcast_S8x1024x1_S8x1024x256_0_1_2 (maskCol M) (ix3 p r j) = M (ix2 p r) := by
  pointwise [maskCol]

theorem maskWords_at (M : IVec S8x1024 1) (p : Fin 8) (r : Fin 1024) (j : Fin 2) :
    broadcastInDim S8x1024x2 ![0, 1, 2] bcast_S8x1024x1_S8x1024x2_0_1_2 (maskCol M) (ix3 p r j) = M (ix2 p r) := by
  pointwise [maskCol]

theorem zeroVecs_at (p : Fin 8) (r : Fin 1024) (j : Fin 256) :
    broadcastInDim S8x1024x256 ![] bcast_S_S8x1024x256 (constant (F := Ideal) S_ .f32 0x00000000#32) (ix3 p r j) = (0 : EReal) := by
  pointwise

theorem zeroWords_at (p : Fin 8) (r : Fin 1024) (j : Fin 2) :
    broadcastInDim S8x1024x2 ![] bcast_S_S8x1024x2 (constantI S_ 32 0#32) (ix3 p r j) = 0#32 := by
  pointwise

theorem catVecs0_at (a b : FVec Ideal S8x1024x128 .f32) (p : Fin 8) (r : Fin 1024) (d : Fin 128) :
    catVecs a b (ix3 p r ⟨d.val, by omega⟩) = a (ix3 p r d) := by
  pointwise [catVecs]

theorem catVecs1_at (a b : FVec Ideal S8x1024x128 .f32) (p : Fin 8) (r : Fin 1024) (d : Fin 128) :
    catVecs a b (ix3 p r ⟨128 + d.val, by omega⟩) = b (ix3 p r d) := by
  pointwise [catVecs]

theorem catWords_at (a b : IVec S8x1024x1 32) (p : Fin 8) (r : Fin 1024) (j : Fin 2) :
    catWords a b (ix3 p r j) = if (j : ℕ) < 1 then a (ix3 p r 0) else b (ix3 p r 0) := by
  obtain ⟨j, hj⟩ := j
  interval_cases j
  · pointwise [catWords]
  · pointwise [catWords]

theorem wordCol_at (w : IVec S8x1024 32) (p : Fin 8) (r : Fin 1024) :
    broadcastInDim S8x1024x1 ![0, 1] bcast_S8x1024_S8x1024x1_0_1 w (ix3 p r 0) = w (ix2 p r) := by
  pointwise

theorem outVecs0_at (l0 l1 : FVec Ideal S8x1024x1024 .f32) (M : IVec S8x1024 1) (T : FVec Ideal S1024x128 .f32)
    (p : Fin 8) (r : Fin 1024) (d : Fin 128) (hl : ∀ k, ∃ x : ℝ, l0 (ix3 p r k) = (x : EReal)) :
    outVecs l0 l1 M T (ix3 p r ⟨d.val, by omega⟩)
      = Scalar.select (M (ix2 p r)) (mix (fun k => l0 (ix3 p r k)) fun k => T (ix2 k d)) 0 := by
  unfold outVecs
  show Scalar.select _ _ _ = _
  rw [maskVecs_at, zeroVecs_at, catVecs0_at, vecs_at l0 T p r d hl]

theorem outVecs1_at (l0 l1 : FVec Ideal S8x1024x1024 .f32) (M : IVec S8x1024 1) (T : FVec Ideal S1024x128 .f32)
    (p : Fin 8) (r : Fin 1024) (d : Fin 128) (hl : ∀ k, ∃ x : ℝ, l1 (ix3 p r k) = (x : EReal)) :
    outVecs l0 l1 M T (ix3 p r ⟨128 + d.val, by omega⟩)
      = Scalar.select (M (ix2 p r)) (mix (fun k => l1 (ix3 p r k)) fun k => T (ix2 k d)) 0 := by
  unfold outVecs
  show Scalar.select _ _ _ = _
  rw [maskVecs_at, zeroVecs_at, catVecs1_at, vecs_at l1 T p r d hl]

theorem outWords_at (l0 l1 : FVec Ideal S8x1024x1024 .f32) (M : IVec S8x1024 1) (p : Fin 8) (r : Fin 1024) (j : Fin 2) :
    outWords l0 l1 M (ix3 p r j)
      = Scalar.select (M (ix2 p r))
          (if (j : ℕ) < 1 then pick fun k => l0 (ix3 p r k) else pick fun k => l1 (ix3 p r k)) 0#32 := by
  unfold outWords
  show Scalar.select _ _ _ = _
  rw [maskWords_at, zeroWords_at, catWords_at, wordCol_at, wordCol_at, words_at, words_at]

end Cert.Proof.RefVal

end
-- ==== Proof.Agree.lean ====
/-
  THE AGREEMENT (hand-written): where inputs, weights and bias are real, the reference's two results are the kernel's.
-/
module

public import proofs.«01_k».proof.Proof.KerRun
public import proofs.«01_k».proof.Proof.RefVal

@[expose] public section

set_option maxRecDepth 16384

noncomputable section

namespace Cert.Proof.Agree

open Cert.ReferenceIdeal Cert.Proof.Rows Cert.Proof.RefRun Cert.Proof.RefVal Cert.Proof.KerArr Cert.Proof.KerRun
open Idealize.ShloMosaic

variable (X : FVec Ideal S8x1024x256 .f32) (M : IVec S8x1024 1) (W : FVec Ideal S1024x128 .f32) (B : FVec Ideal S1024 .f32)
  (T : FVec Ideal S1024x128 .f32)

/-- A row of the reference's logits is the kernel's row: of the first half, -/
theorem row0_eq (p : Fin 8) (r : Fin 1024) : (fun k : Fin 1024 => logits (half0 X) W B (ix3 p r k)) = row0 X W B p r :=
  funext fun k => logits0_at X W B p r k

/-- and of the second. -/
theorem row1_eq (p : Fin 8) (r : Fin 1024) : (fun k : Fin 1024 => logits (half1 X) W B (ix3 p r k)) = row1 X W B p r :=
  funext fun k => logits1_at X W B p r k

/-- The code words agree whatever the arguments hold, -/
theorem words_agree : outWords (logits (half0 X) W B) (logits (half1 X) W B) M = wordRes X M W B := by
  funext i
  obtain ⟨p, r, e, rfl⟩ : ∃ p r e, i = ix3 p r e := ⟨i 0, i 1, i 2, eq_ix3 i⟩
  refine (outWords_at _ _ M p r e).trans ?_
  rw [row0_eq, row1_eq]
  rfl

section Vectors

variable (hX : ∀ k, ∃ r : ℝ, X k = (r : EReal)) (hW : ∀ k, ∃ r : ℝ, W k = (r : EReal)) (hB : ∀ k, ∃ r : ℝ, B k = (r : EReal))
include hX hW hB

theorem vecs0_agree (p : Fin 8) (r : Fin 1024) (d : Fin 128) :
    outVecs (logits (half0 X) W B) (logits (half1 X) W B) M T (ix3 p r ⟨d.val, by omega⟩)
      = vecRes X M W B T (ix3 p r ⟨d.val, by omega⟩) := by
  refine (outVecs0_at _ _ M T p r d fun k => ?_).trans ?_
  · rw [RefVal.logits0_at]
    exact logit_real 128 _ _ _ (fun _ => hX _) (fun _ => hW _) (hB _)
  · rw [row0_eq]
    exact (vecOf0 X M W B T p r d).symm

theorem vecs1_agree (p : Fin 8) (r : Fin 1024) (d : Fin 128) :
    outVecs (logits (half0 X) W B) (logits (half1 X) W B) M T (ix3 p r ⟨128 + d.val, by omega⟩)
      = vecRes X M W B T (ix3 p r ⟨128 + d.val, by omega⟩) := by
  refine (outVecs1_at _ _ M T p r d fun k => ?_).trans ?_
  · rw [RefVal.logits1_at]
    exact logit_real 128 _ _ _ (fun _ => hX _) (fun _ => hW _) (hB _)
  · rw [row1_eq]
    exact (vecOf1 X M W B T p r d).symm

/-- and the code vectors where the logits are real. -/
theorem vecs_agree : outVecs (logits (half0 X) W B) (logits (half1 X) W B) M T = vecRes X M W B T := by
  funext i
  obtain ⟨p, r, d, rfl⟩ : ∃ p r d, i = ix3 p r d := ⟨i 0, i 1, i 2, eq_ix3 i⟩
  by_cases h : (d : ℕ) < 128
  · exact vecs0_agree X M W B T hX hW hB p r ⟨d.val, h⟩
  · have e : d = ⟨128 + (d.val - 128), by omega⟩ := Fin.ext (by simp only []; omega)
    rw [e]
    exact vecs1_agree X M W B T hX hW hB p r ⟨d.val - 128, by omega⟩

end Vectors

end Cert.Proof.Agree

end
-- ==== Proof.lean ====
/-
  THE PROOF (hand-written): the claim from its parts — the frames, the ideal kernel, and the two results' agreement.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_logits
public import proofs.«01_k».proof.Proof.RefRun
public import proofs.«01_k».proof.Proof.PreReal
public import proofs.«01_k».proof.Proof.KerRun
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

theorem frame_kernel : quiescent_Kernel (hKernel := Cert.Kernel.Gen.facts) :=
  fun m ρ _ => Cert.Kernel.Gen.frame m ρ

theorem frame_ideal : quiescent_KernelIdeal (hKernelIdeal := Cert.KernelIdeal.Gen.facts) :=
  fun m ρ _ => Cert.KernelIdeal.Gen.frame m ρ

theorem frame_ideal_pre : quiescent_KernelIdeal_pre_finite_logits (hKernelIdeal := Cert.KernelIdeal.Gen.facts)
    (hPre_finite_logits := Cert.Pre_finite_logits.Gen.facts) :=
  fun m ρ _ => Cert.KernelIdeal.Gen.frame m ρ

/-- The reference's frame is what its run says of the arguments; it has no semaphore. -/
theorem frame_reference : quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩) (RefRun.run (F := Ideal) m ρ)

theorem frame_reference_pre : quiescent_ReferenceIdeal_pre_finite_logits (hReferenceIdeal := Cert.ReferenceIdeal.Gen.facts)
    (hPre_finite_logits := Cert.Pre_finite_logits.Gen.facts) :=
  fun m ρ _ => (θ_run Cert.ReferenceIdeal.defs _ _).mono
    (fun r h => ⟨fun c => (h c).2.2, Idealize.ShloMosaic.sem_eq_zero_of_no_sems (by decide) r.2⟩) (RefRun.run (F := Ideal) m ρ)

/-- Kernel and reference leave the same code vectors and the same code words. -/
theorem values_agree : algebraic_KernelIdeal_ReferenceIdeal_pre_finite_logits (hKernelIdeal := Cert.KernelIdeal.Gen.facts)
    (hReferenceIdeal := Cert.ReferenceIdeal.Gen.facts) (hPre_finite_logits := Cert.Pre_finite_logits.Gen.facts) := by
  intro m g m' g' hpre hagree
  refine ⟨_, _, KerRun.run m g, (θ_run Cert.ReferenceIdeal.defs _ _).mono (fun r h c => ?_) (RefRun.run (F := Ideal) m' g')⟩
  obtain ⟨hv, hw, hargs⟩ := h c
  obtain ⟨e0, e1, e2, e3, e4⟩ := hagree c
  refine ⟨hv.trans ?_, hw.trans ?_, hargs⟩
  · rw [e0, e1, e2, e3, e4]
    obtain ⟨hX, hW, hB⟩ := PreReal.real_of_fn _ _ _ _ _ ix0 (congrFun (hpre c) ix0)
    exact Agree.vecs_agree _ _ _ _ _ hX hW hB
  · rw [e0, e1, e2, e3]
    exact Agree.words_agree _ _ _ _

theorem claim : Cert.Claim :=
  ⟨Cert.Kernel.Gen.facts, Cert.KernelIdeal.Gen.facts, Cert.ReferenceIdeal.Gen.facts, Cert.Pre_finite_logits.Gen.facts,
    frame_kernel, frame_ideal, frame_ideal_pre, frame_reference, frame_reference_pre, trivial, values_agree⟩

end Cert.Proof

end
